-- ==== Defs.lean ====
def Pre_Kernel [hPre_routes_Kernel : Cert.Pre_routes_Kernel.Facts] (m : (ℓ : Loc Cert.Kernel.nD Cert.Kernel.τ Cert.Kernel.sig) → Buf (Elt Bits) ℓ) : Prop :=
  ∀ c : Dev Cert.Kernel.nD,
    (Cert.Pre_routes_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_routes_Kernel : Cert.Pre_routes_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routes_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routes_ReferenceIdeal [hPre_routes_ReferenceIdeal : Cert.Pre_routes_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_routes_Kernel : Cert.Pre_routes_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_routes_Kernel : Cert.Pre_routes_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routes_ReferenceIdeal [hReferenceIdeal : Cert.ReferenceIdeal.Facts] [hPre_routes_ReferenceIdeal : Cert.Pre_routes_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routes_Kernel : Cert.Pre_routes_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![32, 1024, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routes_Kernel : Cert.Pre_routes_Kernel.Facts) (hPre_routes_ReferenceIdeal : Cert.Pre_routes_ReferenceIdeal.Facts),
    quiescent_Kernel (hKernel := hKernel) (hPre_routes_Kernel := hPre_routes_Kernel)
    ∧ quiescent_KernelIdeal (hKernelIdeal := hKernelIdeal) (hPre_routes_Kernel := hPre_routes_Kernel)
    ∧ quiescent_ReferenceIdeal (hReferenceIdeal := hReferenceIdeal)
    ∧ quiescent_ReferenceIdeal_pre_routes_ReferenceIdeal (hReferenceIdeal := hReferenceIdeal) (hPre_routes_ReferenceIdeal := hPre_routes_ReferenceIdeal)
    ∧ preserves_Kernel_KernelIdeal
    ∧ algebraic_KernelIdeal_ReferenceIdeal (hKernelIdeal := hKernelIdeal) (hReferenceIdeal := hReferenceIdeal) (hPre_routes_Kernel := hPre_routes_Kernel)
-- ==== Pre_routes_Kernel.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel

variable [Facts]

def fn {F : FTy → Type} [FloatOps F] (main_arg0 : FVec F S2048x1024 .f32) (main_arg1 : FVec F S1024x32 .f32) (main_arg2 : IVec S2048x1 32) (main_arg3 : FVec F S8x1024x1024 .f32) : IVec S_ 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 32#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_c_1 : IVec S_ 1 := constantI S_ 1 1#1
  let main_v5 : IVec S_ 1 := (fun x v => Host.reduce IntOp.andi x v reducesTo_S2048x1_S_d0_1 h_S_) main_v4 main_c_1
  main_v5
-- ==== Pre_routes_ReferenceIdeal.lean ====
abbrev S2048x1024 : Shape := ⟨2, ![2048, 1024]⟩
abbrev S1024x32 : Shape := ⟨2, ![1024, 32]⟩
abbrev S2048x1 : Shape := ⟨2, ![2048, 1]⟩
abbrev S32x1024x1024 : Shape := ⟨3, ![32, 1024, 1024]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel

variable [Facts]

def fn {F : FTy → Type} [FloatOps F] (main_arg0 : FVec F S2048x1024 .f32) (main_arg1 : FVec F S1024x32 .f32) (main_arg2 : IVec S2048x1 32) (main_arg3 : FVec F S32x1024x1024 .f32) : IVec S_ 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 32#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_c_1 : IVec S_ 1 := constantI S_ 1 1#1
  let main_v5 : IVec S_ 1 := (fun x v => Host.reduce IntOp.andi x v reducesTo_S2048x1_S_d0_1 h_S_) main_v4 main_c_1
  main_v5
-- ==== Kernel.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S448x1024 : Shape := ⟨2, ![448, 1024]⟩
abbrev S4x448x1024 : Shape := ⟨3, ![4, 448, 1024]⟩
abbrev S1793 : Shape := ⟨1, ![1793]⟩
abbrev S32 : Shape := ⟨1, ![32]⟩
abbrev S4 : Shape := ⟨1, ![4]⟩
abbrev S_ : Shape := ⟨0, ![]⟩
abbrev S1 : Shape := ⟨1, ![1]⟩
abbrev S1x1 : Shape := ⟨2, ![1, 1]⟩
abbrev S1x1024 : Shape := ⟨2, ![1, 1024]⟩
abbrev S56x1024 : Shape := ⟨2, ![56, 1024]⟩
abbrev S1x1024x1024 : Shape := ⟨3, ![1, 1024, 1024]⟩
abbrev S1024x1024 : Shape := ⟨2, ![1024, 1024]⟩
abbrev S1x448x1024 : Shape := ⟨3, ![1, 448, 1024]⟩
abbrev S1x224x1024 : Shape := ⟨3, ![1, 224, 1024]⟩
abbrev S224x1024 : Shape := ⟨2, ![224, 1024]⟩

abbrev nBuf : Space → Nat
  | .hbm => 5
  | .vmem => 6
  | .smem => 3
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x1, .i32⟩
  | .hbm, ⟨3, _⟩ => ⟨S8x1024x1024, .f32⟩
  | .hbm, ⟨4, _⟩ => ⟨S2048x1024, .f32⟩
  | .local _ .vmem, ⟨0, _⟩ => ⟨S2048x1024, .f32⟩
  | .local _ .vmem, ⟨1, _⟩ => ⟨S8x1024x1024, .f32⟩
  | .local _ .vmem, ⟨2, _⟩ => ⟨S2048x1024, .f32⟩
  | .local _ .vmem, ⟨3, _⟩ => ⟨S448x1024, .f32⟩
  | .local _ .vmem, ⟨4, _⟩ => ⟨S448x1024, .f32⟩
  | .local _ .vmem, ⟨5, _⟩ => ⟨S4x448x1024, .bf16⟩
  | .local _ .smem, ⟨0, _⟩ => ⟨S2048x1, .i32⟩
  | .local _ .smem, ⟨1, _⟩ => ⟨S1793, .i32⟩
  | .local _ .smem, ⟨2, _⟩ => ⟨S32, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg1_0 : Ref sig .tc := ⟨.smem, 0, rfl⟩
abbrev cc0_scratch3 : Ref sig .tc := ⟨.smem, 1, rfl⟩
abbrev cc0_scratch4 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
@[reducible] def k0_t1_loop : Scf.Loop 32 :=
  let c0_i32_8 : BitVec 32 := 0#32
  let c1793_i32 : BitVec 32 := 1793#32
  let v12 : BitVec 32 := Scalar.addi c0_i32_8 c1793_i32
  let c1_i32_9 : BitVec 32 := 1#32
  ⟨c0_i32_8, v12, c1_i32_9⟩
def k0_off1 (k0_t1 : Fin k0_t1_loop.trips) : Fin 1 → Nat :=
  let c0_i32_8 : BitVec 32 := 0#32
  let c1_i32_9 : BitVec 32 := 1#32
  let arg11 : BitVec 32 := Scf.iv c0_i32_8 c1_i32_9 k0_t1
  let v204 : Index := Scalar.indexCast arg11
  ![v204.toNat]
@[reducible] def k0_t2_loop : Scf.Loop 32 :=
  let c0_i32_11 : BitVec 32 := 0#32
  let c32_i32 : BitVec 32 := 32#32
  let v13 : BitVec 32 := Scalar.addi c0_i32_11 c32_i32
  let c1_i32_12 : BitVec 32 := 1#32
  ⟨c0_i32_11, v13, c1_i32_12⟩
def k0_off2 (k0_t2 : Fin k0_t2_loop.trips) : Fin 1 → Nat :=
  let c0_i32_11 : BitVec 32 := 0#32
  let c1_i32_12 : BitVec 32 := 1#32
  let arg11 : BitVec 32 := Scf.iv c0_i32_11 c1_i32_12 k0_t2
  let v204 : Index := Scalar.indexCast arg11
  ![v204.toNat]
@[reducible] def k0_t3_loop : Scf.Loop 32 :=
  let c0_i32_14 : BitVec 32 := 0#32
  let c2048_i32 : BitVec 32 := 2048#32
  let v14 : BitVec 32 := Scalar.addi c0_i32_14 c2048_i32
  let c1_i32_15 : BitVec 32 := 1#32
  ⟨c0_i32_14, v14, c1_i32_15⟩
def k0_off3 (k0_t3 : Fin k0_t3_loop.trips) : Fin 2 → Nat :=
  let c0_i32_14 : BitVec 32 := 0#32
  let c1_i32_15 : BitVec 32 := 1#32
  let arg11 : BitVec 32 := Scf.iv c0_i32_14 c1_i32_15 k0_t3
  let v204 : Index := Scalar.indexCast arg11
  let c0_229 : Index := 0#32
  ![v204.toNat, 0]
def k0_off4 (v205 : BitVec 32) : Fin 1 → Nat :=
  let v206 : Index := Scalar.indexCast v205
  ![v206.toNat]

def k0_chk1 (v205 : BitVec 32) : Prop :=
  (∀ a, (k0_off4 v205) a + S1.size a ≤ S32.size a)
theorem k0_off4_inb : ∀ (v205 : BitVec 32) (k0_hw1 : k0_chk1 v205), ∀ a, (k0_off4 v205) a + S1.size a ≤ S32.size a := fun v205 k0_hw1 => k0_hw1

def k0_off5 (v205 : BitVec 32) (v207 : BitVec 32) : Fin 1 → Nat :=
  let c51_i32 : BitVec 32 := 51#32
  let v211 : BitVec 1 := Scalar.cmpi .slt v207 c51_i32
  let c56_i32 : BitVec 32 := 56#32
  let v212 : BitVec 32 := Scalar.muli v205 c56_i32
  let v213 : BitVec 32 := Scalar.addi v212 v207
  let c1792_i32 : BitVec 32 := 1792#32
  let v214 : BitVec 32 := Scalar.select v211 v213 c1792_i32
  let v215 : Index := Scalar.indexCast v214
  ![v215.toNat]

def k0_chk2 (v205 : BitVec 32) (v207 : BitVec 32) : Prop :=
  (∀ a, (k0_off5 v205 v207) a + S1.size a ≤ S1793.size a)
theorem k0_off5_inb : ∀ (v205 : BitVec 32) (v207 : BitVec 32) (k0_hw2 : k0_chk2 v205 v207), ∀ a, (k0_off5 v205 v207) a + S1.size a ≤ S1793.size a := fun v205 v207 k0_hw2 => k0_hw2

@[reducible] def k0_t4_loop : Scf.Loop 32 :=
  let c0_i32_17 : BitVec 32 := 0#32
  let c448_i32_18 : BitVec 32 := 448#32
  let v16 : BitVec 32 := Scalar.addi c0_i32_17 c448_i32_18
  let c1_i32_19 : BitVec 32 := 1#32
  ⟨c0_i32_17, v16, c1_i32_19⟩
def k0_off6 (d0 : Dev nD) (k0_t4 : Fin k0_t4_loop.trips) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c448_i32 : BitVec 32 := 448#32
  let v15 : BitVec 32 := Scalar.muli v2 c448_i32
  let c0_i32_17 : BitVec 32 := 0#32
  let c1_i32_19 : BitVec 32 := 1#32
  let arg11 : BitVec 32 := Scf.iv c0_i32_17 c1_i32_19 k0_t4
  let v204 : BitVec 32 := Scalar.addi v15 arg11
  let v205 : Index := Scalar.indexCast v204
  ![v205.toNat]
def k0_off7 (v206 : BitVec 32) : Fin 2 → Nat :=
  let c2047_i32 : BitVec 32 := 2047#32
  let v207 : BitVec 32 := Scalar.minsi v206 c2047_i32
  let v208 : Index := Scalar.indexCast v207
  let c0_229 : Index := 0#32
  ![v208.toNat, 0]

def k0_chk3 (v206 : BitVec 32) : Prop :=
  (∀ a, (k0_off7 v206) a + S1x1024.size a ≤ S2048x1024.size a)
theorem k0_off7_inb : ∀ (v206 : BitVec 32) (k0_hw3 : k0_chk3 v206), ∀ a, (k0_off7 v206) a + S1x1024.size a ≤ S2048x1024.size a := fun v206 k0_hw3 => k0_hw3

def k0_off8 (k0_t4 : Fin k0_t4_loop.trips) : Fin 2 → Nat :=
  let c0_i32_17 : BitVec 32 := 0#32
  let c1_i32_19 : BitVec 32 := 1#32
  let arg11 : BitVec 32 := Scf.iv c0_i32_17 c1_i32_19 k0_t4
  let v211 : Index := Scalar.indexCast arg11
  let c0_230 : Index := 0#32
  ![v211.toNat, 0]
def k0_dev3 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_78 : BitVec 32 := 1#32
  let v78 : BitVec 32 := Scalar.muli v6 c1_i32_78
  let v79 : BitVec 32 := Scalar.addi c0_i32_79 v78
  v79.toNat
def k0_dev4 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_88 : BitVec 32 := 1#32
  let v88 : BitVec 32 := Scalar.muli v4 c1_i32_88
  let v89 : BitVec 32 := Scalar.addi c0_i32_89 v88
  v89.toNat
@[reducible] def k0_t5_loop : Scf.Loop 32 :=
  let c0_i32_98 : BitVec 32 := 0#32
  let c448_i32_99 : BitVec 32 := 448#32
  let v101 : BitVec 32 := Scalar.addi c0_i32_98 c448_i32_99
  let c1_i32_100 : BitVec 32 := 1#32
  ⟨c0_i32_98, v101, c1_i32_100⟩
def k0_off9 (d0 : Dev nD) (k0_t5 : Fin k0_t5_loop.trips) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c448_i32_97 : BitVec 32 := 448#32
  let v100 : BitVec 32 := Scalar.muli v2 c448_i32_97
  let c0_i32_98 : BitVec 32 := 0#32
  let c1_i32_100 : BitVec 32 := 1#32
  let arg11 : BitVec 32 := Scf.iv c0_i32_98 c1_i32_100 k0_t5
  let v204 : BitVec 32 := Scalar.addi v100 arg11
  let v205 : Index := Scalar.indexCast v204
  ![v205.toNat]
def k0_off10 (k0_t5 : Fin k0_t5_loop.trips) : Fin 2 → Nat :=
  let c0_i32_98 : BitVec 32 := 0#32
  let c1_i32_100 : BitVec 32 := 1#32
  let arg11 : BitVec 32 := Scf.iv c0_i32_98 c1_i32_100 k0_t5
  let v210 : Index := Scalar.indexCast arg11
  let c0_231 : Index := 0#32
  ![v210.toNat, 0]
def k0_off11 (v206 : BitVec 32) : Fin 2 → Nat :=
  let v212 : Index := Scalar.indexCast v206
  let c0_232 : Index := 0#32
  ![v212.toNat, 0]
def k0_cond1 (v206 : BitVec 32) : BitVec 1 :=
  let c2048_i32_229 : BitVec 32 := 2048#32
  let v207 : BitVec 1 := Scalar.cmpi .slt v206 c2048_i32_229
  let v208 : BitVec 32 := Scalar.extui v207
  let c0_i32_230 : BitVec 32 := 0#32
  let v209 : BitVec 1 := Scalar.cmpi .ne v208 c0_i32_230
  v209

def k0_chk4 (v206 : BitVec 32) : Prop :=
  (∀ (k0_h1 : k0_cond1 v206 = 1#1), ∀ a, (k0_off11 v206) a + S1x1024.size a ≤ S2048x1024.size a)
theorem k0_off11_inb : ∀ (v206 : BitVec 32) (k0_hw4 : k0_chk4 v206), ∀ (k0_h1 : k0_cond1 v206 = 1#1), ∀ a, (k0_off11 v206) a + S1x1024.size a ≤ S2048x1024.size a := fun v206 k0_hw4 k0_h1 => k0_hw4 k0_h1

def k0_dev5 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_116 : BitVec 32 := 1#32
  let v110 : BitVec 32 := Scalar.muli v6 c1_i32_116
  let v111 : BitVec 32 := Scalar.addi c0_i32_117 v110
  v111.toNat
def k0_dev6 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_136 : BitVec 32 := 1#32
  let v128 : BitVec 32 := Scalar.muli v4 c1_i32_136
  let v129 : BitVec 32 := Scalar.addi c0_i32_137 v128
  v129.toNat
@[reducible] def k0_t6_loop : Scf.Loop 32 :=
  let c0_i32_147 : BitVec 32 := 0#32
  let c448_i32_148 : BitVec 32 := 448#32
  let v145 : BitVec 32 := Scalar.addi c0_i32_147 c448_i32_148
  let c1_i32_149 : BitVec 32 := 1#32
  ⟨c0_i32_147, v145, c1_i32_149⟩
def k0_off12 (d0 : Dev nD) (k0_t6 : Fin k0_t6_loop.trips) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c448_i32_146 : BitVec 32 := 448#32
  let v144 : BitVec 32 := Scalar.muli v4 c448_i32_146
  let c0_i32_147 : BitVec 32 := 0#32
  let c1_i32_149 : BitVec 32 := 1#32
  let arg11 : BitVec 32 := Scf.iv c0_i32_147 c1_i32_149 k0_t6
  let v204 : BitVec 32 := Scalar.addi v144 arg11
  let v205 : Index := Scalar.indexCast v204
  ![v205.toNat]
def k0_off13 (k0_t6 : Fin k0_t6_loop.trips) : Fin 2 → Nat :=
  let c0_i32_147 : BitVec 32 := 0#32
  let c1_i32_149 : BitVec 32 := 1#32
  let arg11 : BitVec 32 := Scf.iv c0_i32_147 c1_i32_149 k0_t6
  let v210 : Index := Scalar.indexCast arg11
  let c0_231 : Index := 0#32
  ![v210.toNat, 0]
def k0_off14 (v206 : BitVec 32) : Fin 2 → Nat :=
  let v212 : Index := Scalar.indexCast v206
  let c0_232 : Index := 0#32
  ![v212.toNat, 0]
def k0_cond2 (v206 : BitVec 32) : BitVec 1 :=
  let c2048_i32_229 : BitVec 32 := 2048#32
  let v207 : BitVec 1 := Scalar.cmpi .slt v206 c2048_i32_229
  let v208 : BitVec 32 := Scalar.extui v207
  let c0_i32_230 : BitVec 32 := 0#32
  let v209 : BitVec 1 := Scalar.cmpi .ne v208 c0_i32_230
  v209

def k0_chk5 (v206 : BitVec 32) : Prop :=
  (∀ (k0_h2 : k0_cond2 v206 = 1#1), ∀ a, (k0_off14 v206) a + S1x1024.size a ≤ S2048x1024.size a)
theorem k0_off14_inb : ∀ (v206 : BitVec 32) (k0_hw5 : k0_chk5 v206), ∀ (k0_h2 : k0_cond2 v206 = 1#1), ∀ a, (k0_off14 v206) a + S1x1024.size a ≤ S2048x1024.size a := fun v206 k0_hw5 k0_h2 => k0_hw5 k0_h2

@[reducible] def k0_t7_loop : Scf.Loop 32 :=
  let c0_i32_157 : BitVec 32 := 0#32
  let c448_i32_158 : BitVec 32 := 448#32
  let v153 : BitVec 32 := Scalar.addi c0_i32_157 c448_i32_158
  let c1_i32_159 : BitVec 32 := 1#32
  ⟨c0_i32_157, v153, c1_i32_159⟩
def k0_off15 (d0 : Dev nD) (k0_t7 : Fin k0_t7_loop.trips) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c448_i32_156 : BitVec 32 := 448#32
  let v152 : BitVec 32 := Scalar.muli v6 c448_i32_156
  let c0_i32_157 : BitVec 32 := 0#32
  let c1_i32_159 : BitVec 32 := 1#32
  let arg11 : BitVec 32 := Scf.iv c0_i32_157 c1_i32_159 k0_t7
  let v204 : BitVec 32 := Scalar.addi v152 arg11
  let v205 : Index := Scalar.indexCast v204
  ![v205.toNat]
def k0_off16 (k0_t7 : Fin k0_t7_loop.trips) : Fin 2 → Nat :=
  let c0_i32_157 : BitVec 32 := 0#32
  let c1_i32_159 : BitVec 32 := 1#32
  let arg11 : BitVec 32 := Scf.iv c0_i32_157 c1_i32_159 k0_t7
  let v210 : Index := Scalar.indexCast arg11
  let c0_231 : Index := 0#32
  ![v210.toNat, 0]
def k0_off17 (v206 : BitVec 32) : Fin 2 → Nat :=
  let v212 : Index := Scalar.indexCast v206
  let c0_232 : Index := 0#32
  ![v212.toNat, 0]
def k0_cond3 (v206 : BitVec 32) : BitVec 1 :=
  let c2048_i32_229 : BitVec 32 := 2048#32
  let v207 : BitVec 1 := Scalar.cmpi .slt v206 c2048_i32_229
  let v208 : BitVec 32 := Scalar.extui v207
  let c0_i32_230 : BitVec 32 := 0#32
  let v209 : BitVec 1 := Scalar.cmpi .ne v208 c0_i32_230
  v209

def k0_chk6 (v206 : BitVec 32) : Prop :=
  (∀ (k0_h3 : k0_cond3 v206 = 1#1), ∀ a, (k0_off17 v206) a + S1x1024.size a ≤ S2048x1024.size a)
theorem k0_off17_inb : ∀ (v206 : BitVec 32) (k0_hw6 : k0_chk6 v206), ∀ (k0_h3 : k0_cond3 v206 = 1#1), ∀ a, (k0_off17 v206) a + S1x1024.size a ≤ S2048x1024.size a := fun v206 k0_hw6 k0_h3 => k0_hw6 k0_h3

@[reducible] def k0_t8_loop : Scf.Loop 32 :=
  let c0_i32_189 : BitVec 32 := 0#32
  let c448_i32_190 : BitVec 32 := 448#32
  let v179 : BitVec 32 := Scalar.addi c0_i32_189 c448_i32_190
  let c1_i32_191 : BitVec 32 := 1#32
  ⟨c0_i32_189, v179, c1_i32_191⟩
def k0_off18 (d0 : Dev nD) (k0_t8 : Fin k0_t8_loop.trips) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_186 : BitVec 32 := 2#32
  let v176 : BitVec 32 := Scalar.addi v2 c2_i32_186
  let c4_i32_187 : BitVec 32 := 4#32
  let v177 : BitVec 32 := Scalar.remsi v176 c4_i32_187
  let c448_i32_188 : BitVec 32 := 448#32
  let v178 : BitVec 32 := Scalar.muli v177 c448_i32_188
  let c0_i32_189 : BitVec 32 := 0#32
  let c1_i32_191 : BitVec 32 := 1#32
  let arg11 : BitVec 32 := Scf.iv c0_i32_189 c1_i32_191 k0_t8
  let v204 : BitVec 32 := Scalar.addi v178 arg11
  let v205 : Index := Scalar.indexCast v204
  ![v205.toNat]
def k0_off19 (k0_t8 : Fin k0_t8_loop.trips) : Fin 2 → Nat :=
  let c0_i32_189 : BitVec 32 := 0#32
  let c1_i32_191 : BitVec 32 := 1#32
  let arg11 : BitVec 32 := Scf.iv c0_i32_189 c1_i32_191 k0_t8
  let v210 : Index := Scalar.indexCast arg11
  let c0_231 : Index := 0#32
  ![v210.toNat, 0]
def k0_off20 (v206 : BitVec 32) : Fin 2 → Nat :=
  let v212 : Index := Scalar.indexCast v206
  let c0_232 : Index := 0#32
  ![v212.toNat, 0]
def k0_cond4 (v206 : BitVec 32) : BitVec 1 :=
  let c2048_i32_229 : BitVec 32 := 2048#32
  let v207 : BitVec 1 := Scalar.cmpi .slt v206 c2048_i32_229
  let v208 : BitVec 32 := Scalar.extui v207
  let c0_i32_230 : BitVec 32 := 0#32
  let v209 : BitVec 1 := Scalar.cmpi .ne v208 c0_i32_230
  v209

def k0_chk7 (v206 : BitVec 32) : Prop :=
  (∀ (k0_h4 : k0_cond4 v206 = 1#1), ∀ a, (k0_off20 v206) a + S1x1024.size a ≤ S2048x1024.size a)
theorem k0_off20_inb : ∀ (v206 : BitVec 32) (k0_hw7 : k0_chk7 v206), ∀ (k0_h4 : k0_cond4 v206 = 1#1), ∀ a, (k0_off20 v206) a + S1x1024.size a ≤ S2048x1024.size a := fun v206 k0_hw7 k0_h4 => k0_hw7 k0_h4

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x1024 : Shape := ⟨2, ![2048, 1024]⟩
abbrev S1024x32 : Shape := ⟨2, ![1024, 32]⟩
abbrev S2048x1 : Shape := ⟨2, ![2048, 1]⟩
abbrev S32x1024x1024 : Shape := ⟨3, ![32, 1024, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S2048x1024x1024 : Shape := ⟨3, ![2048, 1024, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x1, .i32⟩
  | .hbm, ⟨3, _⟩ => ⟨S32x1024x1024, .f32⟩
  | .hbm, ⟨4, _⟩ => ⟨S2048, .i32⟩
  | .hbm, ⟨5, _⟩ => ⟨S2048, .i32⟩
  | .hbm, ⟨6, _⟩ => ⟨S2048x1, .i32⟩
  | .hbm, ⟨7, _⟩ => ⟨S1x2048, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S2048x1024x1024, .f32⟩
  | .hbm, ⟨29, _⟩ => ⟨S2048x1024, .f32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048x1, .i1⟩
  | .hbm, ⟨34, _⟩ => ⟨S_, .f32⟩
  | .hbm, ⟨35, _⟩ => ⟨S_, .f32⟩
  | .hbm, ⟨36, _⟩ => ⟨S2048x1024, .i1⟩
  | .hbm, ⟨37, _⟩ => ⟨S2048x1024, .f32⟩
  | .hbm, ⟨38, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.Route.lean ====
/-
# Which token sits in which slot

Pure counting, no program. `e n` is the expert of token `n`; a token's rank is the number of earlier tokens with
the same expert; expert `k` owns the slots `56 * k, …, 56 * k + 55`, and the first 51 tokens of an expert take its
first 51 slots. `slotTok e n s` is the token in slot `s` once tokens `0, …, n - 1` have been placed, `2048` when
the slot is empty.
-/
module

public import proofs.«01_k».proof.Defs
public import proofs.«01_k».proof.Proof.Gen.KernelIdeal
public import Idealize.ShloMosaic.Lib.WordArith

@[expose] public section

noncomputable section

namespace Cert.Moe

open Idealize.ShloMosaic

/-- How many of the tokens before `n` have expert `k`. -/
def cntN (e : ℕ → ℕ) (n k : ℕ) : ℕ := ((Finset.range n).filter fun j => e j = k).card

/-- The token in slot `s` after the first `n` tokens. -/
def slotTok (e : ℕ → ℕ) : ℕ → ℕ → ℕ
  | 0, _ => 2048
  | n + 1, s => if e n * 56 + cntN e n (e n) = s ∧ cntN e n (e n) < 51 then n else slotTok e n s

theorem cntN_zero (e : ℕ → ℕ) (k : ℕ) : cntN e 0 k = 0 := rfl

theorem cntN_succ (e : ℕ → ℕ) (n k : ℕ) : cntN e (n + 1) k = if e n = k then cntN e n k + 1 else cntN e n k := by
  unfold cntN
  rw [Finset.range_add_one, Finset.filter_insert]
  split
  · rw [Finset.card_insert_of_notMem (by simp)]
  · rfl

theorem cntN_le (e : ℕ → ℕ) (n k : ℕ) : cntN e n k ≤ n :=
  (Finset.card_filter_le _ _).trans (by rw [Finset.card_range])

theorem cntN_mono (e : ℕ → ℕ) {n n' : ℕ} (h : n ≤ n') (k : ℕ) : cntN e n k ≤ cntN e n' k :=
  Finset.card_le_card (Finset.filter_subset_filter _ (Finset.range_subset_range.mpr h))

/-- The rank of token `n`. -/
def rankN (e : ℕ → ℕ) (n : ℕ) : ℕ := cntN e n (e n)

theorem rank_lt (e : ℕ → ℕ) {i j : ℕ} (hij : i < j) (he : e i = e j) : rankN e i < rankN e j := by
  unfold rankN
  have h := cntN_succ e i (e i)
  rw [if_pos rfl] at h
  have h2 := cntN_mono e (Nat.succ_le_of_lt hij) (e i)
  rw [← he]
  simp only [Nat.succ_eq_add_one] at h2
  omega

/-- Two placed tokens of one slot are one token. -/
theorem place_inj (e : ℕ → ℕ) {i j : ℕ} (hi : rankN e i < 51) (hj : rankN e j < 51)
    (h : e i * 56 + rankN e i = e j * 56 + rankN e j) : i = j := by
  have he : e i = e j := by omega
  have hr : rankN e i = rankN e j := by omega
  rcases lt_trichotomy i j with h1 | h1 | h1
  · have := rank_lt e h1 he; omega
  · exact h1
  · have := rank_lt e h1 he.symm; omega

theorem slotTok_le (e : ℕ → ℕ) : ∀ n s, n ≤ 2048 → slotTok e n s ≤ 2048
  | 0, _, _ => le_rfl
  | n + 1, s, h => by
      unfold slotTok
      split
      · omega
      · exact slotTok_le e n s (by omega)

/-- A token in a slot is a placed token of that slot. -/
theorem slotTok_spec (e : ℕ → ℕ) (s i : ℕ) (hi : i < 2048) :
    ∀ n, slotTok e n s = i → i < n ∧ e i * 56 + rankN e i = s ∧ rankN e i < 51
  | 0, h => absurd h (by unfold slotTok; omega)
  | n + 1, h => by
      unfold slotTok at h
      split at h
      · next hc => subst h; exact ⟨Nat.lt_succ_self _, hc.1, hc.2⟩
      · have := slotTok_spec e s i hi n h
        exact ⟨by omega, this.2⟩

/-- A placed token is in its slot. -/
theorem slotTok_of_place (e : ℕ → ℕ) (i : ℕ) (hr : rankN e i < 51) :
    ∀ n, i < n → slotTok e n (e i * 56 + rankN e i) = i
  | 0, h => absurd h (Nat.not_lt_zero _)
  | n + 1, h => by
      unfold slotTok
      split
      · next hc => exact (place_inj e hr hc.2 hc.1.symm).symm
      · next hc =>
          rcases Nat.lt_succ_iff_lt_or_eq.mp h with h1 | h1
          · exact slotTok_of_place e i hr n h1
          · subst h1; exact absurd ⟨rfl, hr⟩ hc

theorem slotTok_iff (e : ℕ → ℕ) (s i : ℕ) (hi : i < 2048) :
    slotTok e 2048 s = i ↔ e i * 56 + rankN e i = s ∧ rankN e i < 51 :=
  ⟨fun h => (slotTok_spec e s i hi 2048 h).2, fun h => by rw [← h.1]; exact slotTok_of_place e i h.2 2048 hi⟩

/-! ## The words the kernel computes with them -/

theorem toNat_cst {n : ℕ} (h : n < 2 ^ 32) : (BitVec.ofNat 32 n).toNat = n := WordArith.toNat_ofNat_of_lt n h

theorem slt_ofNat {a b : ℕ} (ha : a < 2 ^ 31) (hb : b < 2 ^ 31) :
    (BitVec.ofNat 32 a).slt (BitVec.ofNat 32 b) = decide (a < b) := by
  rw [BitVec.slt, WordArith.toInt_ofNat_small a ha, WordArith.toInt_ofNat_small b hb]
  simp

end Cert.Moe

namespace Cert.Moe

open Idealize.ShloMosaic Cert.KernelIdeal Cert.KernelIdeal.Gen

theorem off4_eq (v : BitVec 32) : k0_off4 v = ![v.toNat] := rfl

theorem off5_eq (v : BitVec 32) (hv : v.toNat < 32) (n : ℕ) (hn : n ≤ 2048) :
    k0_off5 v (BitVec.ofNat 32 n) = ![if n < 51 then v.toNat * 56 + n else 1792] := by
  show ![(Scalar.indexCast (Scalar.select (Scalar.cmpi .slt (BitVec.ofNat 32 n) 51#32)
    (Scalar.addi (Scalar.muli v 56#32) (BitVec.ofNat 32 n)) 1792#32)).toNat] = _
  have hc : Scalar.cmpi .slt (BitVec.ofNat 32 n) 51#32 = BitVec.ofBool (decide (n < 51)) := by
    show BitVec.ofBool ((BitVec.ofNat 32 n).slt (BitVec.ofNat 32 51)) = _
    rw [slt_ofNat (by omega) (by omega)]
  rw [hc]
  by_cases h : n < 51
  · rw [if_pos h, decide_eq_true h]
    show ![(v * 56#32 + BitVec.ofNat 32 n).toNat] = _
    rw [BitVec.toNat_add, BitVec.toNat_mul, toNat_cst (n := n) (by omega)]
    show ![(v.toNat * 56 % 2 ^ 32 + n) % 2 ^ 32] = _
    rw [Nat.mod_eq_of_lt (a := v.toNat * 56) (by omega), Nat.mod_eq_of_lt (by omega)]
  · rw [if_neg h, decide_eq_false h]; rfl

theorem off7_eq (n : ℕ) (hn : n ≤ 2048) : k0_off7 (BitVec.ofNat 32 n) = ![min n 2047, 0] := by
  show ![(IntOp.minsi (BitVec.ofNat 32 n) 2047#32).toNat, 0] = _
  rw [WordArith.toNat_minsi_of_lt _ _ (by rw [toNat_cst (by omega)]; omega) (by decide), toNat_cst (by omega)]
  rfl

theorem off11_eq (n : ℕ) (hn : n ≤ 2048) : k0_off11 (BitVec.ofNat 32 n) = ![n, 0] := by
  show ![(BitVec.ofNat 32 n).toNat, 0] = _
  rw [toNat_cst (by omega)]

theorem cond1_iff (n : ℕ) (hn : n ≤ 2048) : k0_cond1 (BitVec.ofNat 32 n) = 1#1 ↔ n < 2048 := by
  show Scalar.cmpi .ne (Scalar.extui (BitVec.ofBool ((BitVec.ofNat 32 n).slt (BitVec.ofNat 32 2048)))) 0#32 = 1#1 ↔ _
  rw [slt_ofNat (by omega) (by omega)]
  by_cases h : n < 2048
  · simp only [h, decide_true, iff_true]; rfl
  · simp only [h, decide_false, iff_false]; decide

theorem iv_eq (k : ℕ) : Scf.iv 0#32 1#32 k = BitVec.ofNat 32 k := by
  simp [Scf.iv]

end Cert.Moe
-- ==== Proof.Base.lean ====
/-
# The setting: the memrefs, the algebra, how one word or one row is read and written

The buffers the kernel's body is given, named; the resource algebra the launch uses; and the reading of a one-word
or one-row load or store of a whole buffer at a closed offset.
-/
module

public import proofs.«01_k».proof.Proof.Route
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pointwise.ShapeOpsCore
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Rounds over the machine's cells with two duty names. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The memrefs of the body -/

abbrev xM : Memref sig .tc .vmem S2048x1024 .f32 := Memref.whole cc0_stg0_0
abbrev rM : Memref sig .tc .smem S2048x1 .i32 := Memref.whole cc0_stg1_0
abbrev wM : Memref sig .tc .vmem S8x1024x1024 .f32 := Memref.whole cc0_stg2_0
abbrev oM : Memref sig .tc .vmem S2048x1024 .f32 := Memref.whole cc0_stg3_0
abbrev gM : Memref sig .tc .vmem S448x1024 .f32 := Memref.whole cc0_scratch0
abbrev yM : Memref sig .tc .vmem S448x1024 .f32 := Memref.whole cc0_scratch1
abbrev cM : Memref sig .tc .vmem S4x448x1024 .bf16 := Memref.whole cc0_scratch2
abbrev sM : Memref sig .tc .smem S1793 .i32 := Memref.whole cc0_scratch3
abbrev nM : Memref sig .tc .smem S32 .i32 := Memref.whole cc0_scratch4

/-! ## One word, one row -/

section Upd
variable {α : Type}

theorem upd_word {n : ℕ} (f : (⟨1, ![n]⟩ : Shape).Idx → α) (v : α) (off : Fin 1 → ℕ) (k : ℕ) (h : off = ![k])
    (hs : (⟨1, ![n]⟩ : Shape).Slices off ⟨1, ![1]⟩) :
    updateSlice f (fun _ : (⟨1, ![1]⟩ : Shape).Idx => v) off hs = fun i => if (i 0).val = k then v else f i := by
  subst h
  funext i
  rw [updateSlice_apply]
  refine dite_congr (propext ⟨fun h => ?_, fun h a => ?_⟩) (fun _ => rfl) (fun _ => rfl)
  · have := h 0
    change k ≤ (i 0).val ∧ (i 0).val < k + 1 at this
    omega
  · match a with
    | ⟨0, _⟩ =>
      show k ≤ (i 0).val ∧ (i 0).val < k + 1
      omega

theorem upd_row {n m : ℕ} (f : (⟨2, ![n, m]⟩ : Shape).Idx → α) (w : (⟨2, ![1, m]⟩ : Shape).Idx → α) (off : Fin 2 → ℕ)
    (k : ℕ) (h : off = ![k, 0]) (hs : (⟨2, ![n, m]⟩ : Shape).Slices off ⟨2, ![1, m]⟩) :
    updateSlice f w off hs = fun i => if (i 0).val = k then w (ix2 (0 : Fin 1) (i 1 : Fin m)) else f i := by
  subst h
  funext i
  rw [updateSlice_apply]
  have h1 : (i 1).val < m := (i 1).isLt
  refine dite_congr (propext ⟨fun h => ?_, fun h a => ?_⟩) (fun hk => ?_) (fun _ => rfl)
  · have := h 0
    change k ≤ (i 0).val ∧ (i 0).val < k + 1 at this
    omega
  · match a with
    | ⟨0, _⟩ =>
      show k ≤ (i 0).val ∧ (i 0).val < k + 1
      omega
    | ⟨1, _⟩ =>
      show 0 ≤ (i 1).val ∧ (i 1).val < 0 + m
      omega
  · refine congrArg w (funext fun a => ?_)
    match a with
    | ⟨0, _⟩ => exact Fin.ext (show (i 0).val - k = 0 by omega)
    | ⟨1, _⟩ => exact Fin.ext (show (i 1).val - 0 = (i 1).val by omega)

end Upd

end Cert.Moe
-- ==== Proof.Loops.lean ====
/-
# The eight loops of the body

One trip of each loop at a symbolic trip number, then the loop from its invariant. The three bookkeeping loops leave
the routing table, the gather loop the gathered rows, and the four scatter loops, whose text is the same, add one
device's rows to the result.
-/
module

public import proofs.«01_k».proof.Proof.Base

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev wh (b : Ref sig .tc) := Memref.isWhole_whole b

abbrev t1B : Fin k0_t1_loop.trips → Unit → Prog (TpuEff nD τ sig (Elt F) Λ₀ .tc) Unit :=
  k0_t1_body xM (wh _) rM (wh _) wM (wh _) oM (wh _) gM (wh _) yM (wh _) cM (wh _) sM (wh _) nM (wh _) cc0_scratch5 cc0_scratch6
abbrev t2B : Fin k0_t2_loop.trips → Unit → Prog (TpuEff nD τ sig (Elt F) Λ₀ .tc) Unit :=
  k0_t2_body xM (wh _) rM (wh _) wM (wh _) oM (wh _) gM (wh _) yM (wh _) cM (wh _) sM (wh _) nM (wh _) cc0_scratch5 cc0_scratch6
abbrev t3B : Fin k0_t3_loop.trips → Unit → Prog (TpuEff nD τ sig (Elt F) Λ₀ .tc) Unit :=
  k0_t3_body xM (wh _) rM (wh _) wM (wh _) oM (wh _) gM (wh _) yM (wh _) cM (wh _) sM (wh _) nM (wh _) cc0_scratch5 cc0_scratch6
abbrev t4B (d0 : Dev nD) : Fin k0_t4_loop.trips → Unit → Prog (TpuEff nD τ sig (Elt F) Λ₀ .tc) Unit :=
  k0_t4_body xM (wh _) rM (wh _) wM (wh _) oM (wh _) gM (wh _) yM (wh _) cM (wh _) sM (wh _) nM (wh _) cc0_scratch5 cc0_scratch6 d0

theorem t1_trips : k0_t1_loop.trips = 1793 := by decide
theorem t2_trips : k0_t2_loop.trips = 32 := by decide
theorem t3_trips : k0_t3_loop.trips = 2048 := by decide
theorem t4_trips : k0_t4_loop.trips = 448 := by decide

/-- The buffers' points-to. -/
abbrev pt (c : Dev nD) (b : Ref sig .tc) (f : Buf (Elt F) ((c : Thread nD τ).loc b)) : sProp 𝕄 := ((c : Thread nD τ).loc b) ↦{fullShare} f

/-! ## Clearing the two tables -/

def inv1 (c : Dev nD) (k : ℕ) (_ : Unit) : sProp 𝕄 :=
  iprop(∃ f : Buf (Elt F) ((c : Thread nD τ).loc cc0_scratch3), ⌜∀ s : S1793.Idx, (s 0).val < k → f s = 2048#32⌝ ∗ pt c cc0_scratch3 f)

abbrev r1 (k : Fin k0_t1_loop.trips) : Rect S1793 := Rect.unit (s := S1793) (k0_off1 k) S1.size (k0_off1_inb k)
abbrev r2 (k : Fin k0_t2_loop.trips) : Rect S32 := Rect.unit (s := S32) (k0_off2 k) S1.size (k0_off2_inb k)

theorem wr1 (off : Fin 1 → ℕ) (inb) (n : ℕ) (h : off = ![n]) (f : (sM : Memref sig .tc .smem S1793 .i32).view.ty.Contents (Elt F)) (v : BitVec 32) :
    ((sM : Memref sig .tc .smem S1793 .i32).access (Rect.unit (s := S1793) off S1.size inb)).write (Elt F) f (fun _ => v) Finset.univ
      = fun i : S1793.Idx => if (i 0).val = n then v else f i :=
  (View.write_whole_slice_unit cc0_scratch3 off S1.size inb f (fun _ => v)).trans (upd_word f v off n h _)

theorem wr2 (off : Fin 1 → ℕ) (inb) (n : ℕ) (h : off = ![n]) (f : (nM : Memref sig .tc .smem S32 .i32).view.ty.Contents (Elt F)) (v : BitVec 32) :
    ((nM : Memref sig .tc .smem S32 .i32).access (Rect.unit (s := S32) off S1.size inb)).write (Elt F) f (fun _ => v) Finset.univ
      = fun i : S32.Idx => if (i 0).val = n then v else f i :=
  (View.write_whole_slice_unit cc0_scratch4 off S1.size inb f (fun _ => v)).trans (upd_word f v off n h _)

theorem step1 (c : Dev nD) (k : Fin k0_t1_loop.trips) (acc : Unit) :
    inv1 (F := F) c k acc ⊢ wp frame (wpE defs₀ 𝒱₀ (c : Thread nD τ) none) Set.univ (t1B k acc) (inv1 (F := F) c (k.val + 1)) := by
  unfold inv1 t1B k0_t1_body
  simp only [smemLoad, Prog.lift, Prog.bind_op, Prog.bind_ret, Prog.pure_eq_ret, smemLoadElt_bind]
  iintro ⟨%f, %hf, H⟩
  iapply (wp_smemLoadElt 𝒱₀ (c : Thread nD τ) none Set.univ (m := sM) (r := r1 k) (Finset.subset_univ _)) $$ H; iintro H
  iapply (wp_store 𝒱₀ (c : Thread nD τ) none Set.univ (m := sM) (r := r1 k) (Mk := Finset.univ) (Finset.subset_univ _)) $$ H; iintro H
  rw [wp_ret]; imodintro
  iexists _
  isplitr
  rotate_left
  · iexact H
  · ipureintro
    intro s hs
    rw [wr1 _ _ k.val (k0_off1_eq k)]
    dsimp only
    split
    · rfl
    · exact hf s (by omega)

def inv2 (c : Dev nD) (k : ℕ) (_ : Unit) : sProp 𝕄 :=
  iprop(∃ f : Buf (Elt F) ((c : Thread nD τ).loc cc0_scratch4), ⌜∀ s : S32.Idx, (s 0).val < k → f s = 0#32⌝ ∗ pt c cc0_scratch4 f)

theorem step2 (c : Dev nD) (k : Fin k0_t2_loop.trips) (acc : Unit) :
    inv2 (F := F) c k acc ⊢ wp frame (wpE defs₀ 𝒱₀ (c : Thread nD τ) none) Set.univ (t2B k acc) (inv2 (F := F) c (k.val + 1)) := by
  unfold inv2 t2B k0_t2_body
  simp only [smemLoad, Prog.lift, Prog.bind_op, Prog.bind_ret, Prog.pure_eq_ret, smemLoadElt_bind]
  iintro ⟨%f, %hf, H⟩
  iapply (wp_smemLoadElt 𝒱₀ (c : Thread nD τ) none Set.univ (m := nM) (r := r2 k) (Finset.subset_univ _)) $$ H; iintro H
  iapply (wp_store 𝒱₀ (c : Thread nD τ) none Set.univ (m := nM) (r := r2 k) (Mk := Finset.univ) (Finset.subset_univ _)) $$ H; iintro H
  rw [wp_ret]; imodintro
  iexists _
  isplitr
  rotate_left
  · iexact H
  · ipureintro
    intro s hs
    rw [wr2 _ _ k.val (k0_off2_eq k)]
    dsimp only
    split
    · rfl
    · exact hf s (by omega)

/-! ## Routing -/

/-- The experts a routing column names. -/
def eOf (R : S2048x1.Idx → BitVec 32) (n : ℕ) : ℕ := if h : n < 2048 then (R (ix2 (⟨n, h⟩ : Fin 2048) (0 : Fin 1))).toNat else 0

/-- The routing loop before token `k`: the table of slots as the first `k` tokens left it (its last word is a
    scratch word), and the experts' counts. -/
def inv3 (c : Dev nD) (R : S2048x1.Idx → BitVec 32) (k : ℕ) (_ : Unit) : sProp 𝕄 :=
  iprop(pt (F := F) c cc0_stg1_0 R
    ∗ (∃ f : Buf (Elt F) ((c : Thread nD τ).loc cc0_scratch3), ⌜∀ s : S1793.Idx, (s 0).val < 1792 → f s = BitVec.ofNat 32 (slotTok (eOf R) k (s 0).val)⌝ ∗ pt c cc0_scratch3 f)
    ∗ pt (F := F) c cc0_scratch4 (fun i : S32.Idx => BitVec.ofNat 32 (cntN (eOf R) k (i 0).val)))

theorem rd3 (off : Fin 2 → ℕ) (inb) (n : Fin 2048) (h : off = ![n.val, 0]) (f : (rM : Memref sig .tc .smem S2048x1 .i32).view.ty.Contents (Elt F)) (x) :
    ((rM : Memref sig .tc .smem S2048x1 .i32).access (Rect.unit (s := S2048x1) off S1x1.size inb)).read (Elt F) f x = f (ix2 n (0 : Fin 1)) := by
  subst h
  refine congrArg f (funext fun a => ?_)
  match a with
  | ⟨0, _⟩ =>
    have : (x 0).val < 1 := (x 0).isLt
    exact Fin.ext (show n.val + 1 * (x 0).val = n.val by omega)
  | ⟨1, _⟩ =>
    have : (x 1).val < 1 := (x 1).isLt
    exact Fin.ext (show 0 + 1 * (x 1).val = 0 by omega)

theorem rdn (off : Fin 1 → ℕ) (inb) (n : Fin 32) (h : off = ![n.val]) (f : (nM : Memref sig .tc .smem S32 .i32).view.ty.Contents (Elt F)) (x) :
    ((nM : Memref sig .tc .smem S32 .i32).access (Rect.unit (s := S32) off S1.size inb)).read (Elt F) f x = f (ix1 n) := by
  subst h
  refine congrArg f (funext fun a => ?_)
  match a with
  | ⟨0, _⟩ =>
    have : (x 0).val < 1 := (x 0).isLt
    exact Fin.ext (show n.val + 1 * (x 0).val = n.val by omega)

theorem rds (off : Fin 1 → ℕ) (inb) (n : Fin 1793) (h : off = ![n.val]) (f : (sM : Memref sig .tc .smem S1793 .i32).view.ty.Contents (Elt F)) (x) :
    ((sM : Memref sig .tc .smem S1793 .i32).access (Rect.unit (s := S1793) off S1.size inb)).read (Elt F) f x = f (ix1 n) := by
  subst h
  refine congrArg f (funext fun a => ?_)
  match a with
  | ⟨0, _⟩ =>
    have : (x 0).val < 1 := (x 0).isLt
    exact Fin.ext (show n.val + 1 * (x 0).val = n.val by omega)

theorem chk1_of (v : BitVec 32) (hv : v.toNat < 32) : k0_chk1 v := by
  intro a
  match a with
  | ⟨0, _⟩ => show v.toNat + 1 ≤ 32; omega

theorem chk2_of (v : BitVec 32) (hv : v.toNat < 32) (n : ℕ) (hn : n ≤ 2048) : k0_chk2 v (BitVec.ofNat 32 n) := by
  intro a
  rw [off5_eq v hv n hn]
  match a with
  | ⟨0, _⟩ =>
    show (if n < 51 then v.toNat * 56 + n else 1792) + 1 ≤ 1793
    split <;> omega

abbrev r3 (k : Fin k0_t3_loop.trips) : Rect S2048x1 := Rect.unit (s := S2048x1) (k0_off3 k) S1x1.size (k0_off3_inb k)

theorem step3 (c : Dev nD) (R : S2048x1.Idx → BitVec 32) (hR : ∀ i, (R i).toNat < 32) (k : Fin k0_t3_loop.trips) (acc : Unit) :
    inv3 (F := F) c R k acc ⊢ wp frame (wpE defs₀ 𝒱₀ (c : Thread nD τ) none) Set.univ (t3B k acc) (inv3 (F := F) c R (k.val + 1)) := by
  have hk : k.val < 2048 := lt_of_lt_of_eq k.isLt t3_trips
  have he : eOf R k.val = (R (ix2 (⟨k.val, hk⟩ : Fin 2048) (0 : Fin 1))).toNat := dif_pos hk
  have hv := hR (ix2 (⟨k.val, hk⟩ : Fin 2048) (0 : Fin 1))
  have hcn := cntN_le (eOf R) k.val (eOf R k.val)
  unfold inv3 t3B k0_t3_body
  simp only [smemLoad, Prog.lift, Prog.bind_op, Prog.bind_ret, Prog.pure_eq_ret, smemLoadElt_bind]
  iintro ⟨HR, ⟨%f, %hf, H⟩, HN⟩
  iapply (wp_smemLoadElt_named 𝒱₀ (c : Thread nD τ) none Set.univ (m := rM) (r := r3 k)) $$ HR; iintro HR %v %hvr
  rw [rd3 (k0_off3 k) _ ⟨k.val, hk⟩ (k0_off3_eq k)] at hvr
  rw [← hvr] at he hv
  rw [wp_assume_of 𝒱₀ (c : Thread nD τ) none Set.univ (chk1_of v hv)]
  iapply (wp_smemLoadElt_named 𝒱₀ (c : Thread nD τ) none Set.univ (m := nM) (r := Rect.unit (s := S32) (k0_off4 v) S1.size (k0_off4_inb v (chk1_of v hv)))) $$ HN
  iintro HN %w %hw
  rw [rdn (k0_off4 v) _ ⟨v.toNat, hv⟩ rfl] at hw
  change w = BitVec.ofNat 32 (cntN (eOf R) k.val v.toNat) at hw
  rw [← he] at hw
  subst hw
  rw [wp_assume_of 𝒱₀ (c : Thread nD τ) none Set.univ (chk2_of v hv _ (hcn.trans hk.le))]
  iapply (wp_smemLoadElt 𝒱₀ (c : Thread nD τ) none Set.univ (m := nM) (r := Rect.unit (s := S32) (k0_off4 v) S1.size (k0_off4_inb v (chk1_of v hv))) (Finset.subset_univ _)) $$ HN; iintro HN
  iapply (wp_store 𝒱₀ (c : Thread nD τ) none Set.univ (m := nM) (r := Rect.unit (s := S32) (k0_off4 v) S1.size (k0_off4_inb v (chk1_of v hv))) (Mk := Finset.univ) (Finset.subset_univ _)) $$ HN; iintro HN
  iapply (wp_smemLoadElt 𝒱₀ (c : Thread nD τ) none Set.univ (m := sM) (r := Rect.unit (s := S1793) (k0_off5 v _) S1.size (k0_off5_inb v _ (chk2_of v hv _ (hcn.trans hk.le)))) (Finset.subset_univ _)) $$ H; iintro H
  iapply (wp_store 𝒱₀ (c : Thread nD τ) none Set.univ (m := sM) (r := Rect.unit (s := S1793) (k0_off5 v _) S1.size (k0_off5_inb v _ (chk2_of v hv _ (hcn.trans hk.le)))) (Mk := Finset.univ) (Finset.subset_univ _)) $$ H; iintro H
  rw [wp_ret]; imodintro
  isplitl [HR]; · iexact HR
  isplitl [H]
  · iexists _
    isplitr
    rotate_left
    · iexact H
    · ipureintro
      intro s hs
      rw [wr1 _ _ _ (off5_eq v hv _ (hcn.trans hk.le))]
      dsimp only
      rw [← he]
      unfold slotTok
      by_cases h51 : cntN (eOf R) k.val (eOf R k.val) < 51
      · rw [if_pos h51]
        by_cases hs' : (s 0).val = eOf R k.val * 56 + cntN (eOf R) k.val (eOf R k.val)
        · rw [if_pos hs', if_pos ⟨hs'.symm, h51⟩]; exact iv_eq k.val
        · rw [if_neg hs', if_neg (fun h => hs' h.1.symm)]; exact hf s hs
      · rw [if_neg h51, if_neg (by omega), if_neg (fun h => h51 h.2)]; exact hf s hs
  · have hN : (nM.access (Rect.unit (s := S32) (k0_off4 v) S1.size (k0_off4_inb v (chk1_of v hv)))).write (Elt F)
        (fun i : S32.Idx => BitVec.ofNat 32 (cntN (eOf R) k.val (i 0).val))
        (fun _ => Scalar.addi (BitVec.ofNat 32 (cntN (eOf R) k.val (eOf R k.val))) 1#32) Finset.univ
        = fun i : S32.Idx => BitVec.ofNat 32 (cntN (eOf R) (k.val + 1) (i 0).val) := by
      rw [wr2 (k0_off4 v) _ v.toNat rfl]
      funext i
      dsimp only
      rw [cntN_succ, ← he]
      by_cases hi : (i 0).val = eOf R k.val
      · rw [if_pos hi, if_pos hi.symm, hi]
        show BitVec.ofNat 32 _ + BitVec.ofNat 32 1 = _
        rw [BitVec.ofNat_add]
      · rw [if_neg hi, if_neg (fun h => hi h.symm)]
    rw [← hN]
    iexact HN

/-! ## Gathering the token rows -/

/-- Device `c`'s gathered rows before row `k`. -/
def inv4 (c : Dev nD) (X : S2048x1024.Idx → F .f32) (T : ℕ → ℕ) (f : S1793.Idx → BitVec 32) (k : ℕ) (_ : Unit) : sProp 𝕄 :=
  iprop(pt (F := F) c cc0_stg0_0 X ∗ pt (F := F) c cc0_scratch3 f
    ∗ ∃ g : Buf (Elt F) ((c : Thread nD τ).loc cc0_scratch0),
        ⌜∀ i : S448x1024.Idx, (i 0).val < k →
          g i = X (ix2 (⟨min (T (448 * c.val + (i 0).val)) 2047, by omega⟩ : Fin 2048) (i 1 : Fin 1024))⌝ ∗ pt c cc0_scratch0 g)

theorem chk3_of (n : ℕ) (hn : n ≤ 2048) : k0_chk3 (BitVec.ofNat 32 n) := by
  intro a
  rw [off7_eq n hn]
  match a with
  | ⟨0, _⟩ => show min n 2047 + 1 ≤ 2048; omega
  | ⟨1, _⟩ => show 0 + 1024 ≤ 1024; omega

theorem rdx (off : Fin 2 → ℕ) (inb) (n : Fin 2048) (h : off = ![n.val, 0]) (f : (xM : Memref sig .tc .vmem S2048x1024 .f32).view.ty.Contents (Elt F)) :
    (xM : Memref sig .tc .vmem S2048x1024 .f32).view.readAt (Elt F) (Rect.unit (s := S2048x1024) off S1x1024.size inb).toLoadRect f
      = fun x : S1x1024.Idx => f (ix2 n (x 1 : Fin 1024)) := by
  subst h
  refine funext fun x => congrArg f (funext fun a => ?_)
  match a with
  | ⟨0, _⟩ =>
    have : (x 0).val < 1 := (x 0).isLt
    exact Fin.ext (show n.val + 1 * (x 0).val = n.val by omega)
  | ⟨1, _⟩ => exact Fin.ext (show 0 + 1 * (x 1).val = (x 1).val by omega)

theorem wrg (off : Fin 2 → ℕ) (inb) (n : ℕ) (h : off = ![n, 0]) (f : (gM : Memref sig .tc .vmem S448x1024 .f32).view.ty.Contents (Elt F))
    (w : S1x1024.Idx → F .f32) :
    ((gM : Memref sig .tc .vmem S448x1024 .f32).access (Rect.unit (s := S448x1024) off S1x1024.size inb)).write (Elt F) f w Finset.univ
      = fun i : S448x1024.Idx => if (i 0).val = n then w (ix2 (0 : Fin 1) (i 1 : Fin 1024)) else f i :=
  (View.write_whole_slice_unit cc0_scratch0 off S1x1024.size inb f w).trans (upd_row f w off n h _)

theorem pay1_eq (v : Vec F S1x1024 .f32) : k0_pay1 v = v := by
  exact (shapeCast_self _ _).trans (shapeCast_self _ _)

theorem step4 (c : Dev nD) (X : S2048x1024.Idx → F .f32) (T : ℕ → ℕ) (hT : ∀ s, T s ≤ 2048) (f : S1793.Idx → BitVec 32)
    (hf : ∀ s : S1793.Idx, (s 0).val < 1792 → f s = BitVec.ofNat 32 (T (s 0).val)) (k : Fin k0_t4_loop.trips) (acc : Unit) :
    inv4 (F := F) c X T f k acc ⊢ wp frame (wpE defs₀ 𝒱₀ (c : Thread nD τ) none) Set.univ (t4B c k acc) (inv4 (F := F) c X T f (k.val + 1)) := by
  have hk : k.val < 448 := lt_of_lt_of_eq k.isLt t4_trips
  have hc : c.val < 4 := c.isLt
  unfold inv4 t4B k0_t4_body
  simp only [smemLoad, Prog.lift, Prog.bind_op, Prog.bind_ret, Prog.pure_eq_ret, smemLoadElt_bind]
  iintro ⟨HX, HS, ⟨%g, %hg, HG⟩⟩
  iapply (wp_smemLoadElt_named 𝒱₀ (c : Thread nD τ) none Set.univ (m := sM) (r := Rect.unit (s := S1793) (k0_off6 c k) S1.size (k0_off6_inb c k))) $$ HS
  iintro HS %v %hv
  rw [rds (k0_off6 c k) _ ⟨448 * c.val + k.val, by omega⟩ (k0_off6_eq c k), hf _ (show 448 * c.val + k.val < 1792 by omega)] at hv
  change v = BitVec.ofNat 32 (T (448 * c.val + k.val)) at hv
  have hle := hT (448 * c.val + k.val)
  subst hv
  rw [wp_assume_of 𝒱₀ (c : Thread nD τ) none Set.univ (chk3_of _ hle)]
  iapply (wp_load 𝒱₀ (c : Thread nD τ) none Set.univ (m := xM) (Finset.subset_univ _)) $$ HX; iintro HX
  rw [rdx _ _ ⟨min (T (448 * c.val + k.val)) 2047, by omega⟩ (off7_eq _ hle)]
  iapply (wp_load 𝒱₀ (c : Thread nD τ) none Set.univ (m := gM) (Finset.subset_univ _)) $$ HG; iintro HG
  iapply (wp_store 𝒱₀ (c : Thread nD τ) none Set.univ (m := gM) (r := Rect.unit (s := S448x1024) (k0_off8 k) S1x1024.size (k0_off8_inb k)) (Mk := Finset.univ) (Finset.subset_univ _)) $$ HG; iintro HG
  rw [wp_ret]; imodintro
  isplitl [HX]; · iexact HX
  isplitl [HS]; · iexact HS
  iexists _
  isplitr
  rotate_left
  · iexact HG
  · ipureintro
    intro i hi
    rw [wrg _ _ k.val (k0_off8_eq k)]
    dsimp only
    split
    · next h => refine (congrFun (pay1_eq _) _).trans ?_; simp only [h]; rfl
    · exact hg i (by omega)

/-! ## Adding one device's rows to the result -/

/-- `f0` with row `T (448 * o + j)` set to row `j` of `y`, for `j = 0, …, k - 1` in turn. -/
def scat (T : ℕ → ℕ) (o : ℕ) (y : S448x1024.Idx → F .f32) (f0 : S2048x1024.Idx → F .f32) : ℕ → S2048x1024.Idx → F .f32
  | 0 => f0
  | k + 1 => fun i => if (i 0).val = T (448 * o + k) then y (ix2 (⟨min k 447, by omega⟩ : Fin 448) (i 1 : Fin 1024)) else scat T o y f0 k i

theorem scat_succ (T : ℕ → ℕ) (o : ℕ) (y : S448x1024.Idx → F .f32) (f0 : S2048x1024.Idx → F .f32) (k : ℕ) :
    scat T o y f0 (k + 1) = fun i => if (i 0).val = T (448 * o + k) then y (ix2 (⟨min k 447, by omega⟩ : Fin 448) (i 1 : Fin 1024)) else scat T o y f0 k i := rfl

/-- A scatter loop before row `k`: the table, the rows, and the result so far. -/
def invS (c : Dev nD) (T : ℕ → ℕ) (f : S1793.Idx → BitVec 32) (o : ℕ) (y : S448x1024.Idx → F .f32) (f0 : S2048x1024.Idx → F .f32)
    (k : ℕ) (_ : Unit) : sProp 𝕄 :=
  iprop(pt (F := F) c cc0_scratch3 f ∗ pt (F := F) c cc0_scratch1 y ∗ pt (F := F) c cc0_stg3_0 (scat T o y f0 k))

/-- One trip of a scatter loop, over the offsets of the table's word and of the row. -/
def scatProg (offS : Fin 1 → ℕ) (inbS : ∀ a, offS a + S1.size a ≤ S1793.size a) (offY : Fin 2 → ℕ) (inbY : ∀ a, offY a + S1x1024.size a ≤ S448x1024.size a) :
    Prog (TpuEff nD τ sig (Elt F) Λ₀ .tc) Unit := do
  let v : Elt F .i32 ← smemLoad sM (Rect.unit (s := S1793) offS S1.size inbS) numel1_S1 rfl
  have hw : k0_chk4 v := (← Prog.lift (TpuEff.assume (k0_chk4 v) (k0_chk4.dec v))).down
  if h : k0_cond1 v = 1#1 then do
    let w : Vec F S1x1024 .f32 ← Prog.lift (.load yM (Rect.unit (s := S448x1024) offY S1x1024.size inbY).toLoadRect (View.loadsAt_vmem h_S1x1024))
    let _d : Vec F S1x1024 .f32 ← Prog.lift (.load oM (Rect.unit (s := S2048x1024) (k0_off11 v) S1x1024.size (k0_off11_inb v hw h)).toLoadRect (View.loadsAt_vmem h_S1x1024))
    Prog.lift (.store oM (Rect.unit (s := S2048x1024) (k0_off11 v) S1x1024.size (k0_off11_inb v hw h)) w Finset.univ (View.stores_vmem_bits_univ h_S1x1024 rfl) (.inl rfl))
    pure ⟨⟩
  else do
    pure ⟨⟩
  pure ⟨⟩

theorem chk4_of (n : ℕ) (hn : n ≤ 2048) : k0_chk4 (BitVec.ofNat 32 n) := by
  intro h a
  have := (cond1_iff n hn).mp h
  rw [off11_eq n hn]
  match a with
  | ⟨0, _⟩ => show n + 1 ≤ 2048; omega
  | ⟨1, _⟩ => show 0 + 1024 ≤ 1024; omega

theorem rdy (off : Fin 2 → ℕ) (inb) (n : Fin 448) (h : off = ![n.val, 0]) (f : (yM : Memref sig .tc .vmem S448x1024 .f32).view.ty.Contents (Elt F)) :
    (yM : Memref sig .tc .vmem S448x1024 .f32).view.readAt (Elt F) (Rect.unit (s := S448x1024) off S1x1024.size inb).toLoadRect f
      = fun x : S1x1024.Idx => f (ix2 n (x 1 : Fin 1024)) := by
  subst h
  refine funext fun x => congrArg f (funext fun a => ?_)
  match a with
  | ⟨0, _⟩ =>
    have : (x 0).val < 1 := (x 0).isLt
    exact Fin.ext (show n.val + 1 * (x 0).val = n.val by omega)
  | ⟨1, _⟩ => exact Fin.ext (show 0 + 1 * (x 1).val = (x 1).val by omega)

theorem wro (off : Fin 2 → ℕ) (inb) (n : ℕ) (h : off = ![n, 0]) (f : (oM : Memref sig .tc .vmem S2048x1024 .f32).view.ty.Contents (Elt F))
    (w : S1x1024.Idx → F .f32) :
    ((oM : Memref sig .tc .vmem S2048x1024 .f32).access (Rect.unit (s := S2048x1024) off S1x1024.size inb)).write (Elt F) f w Finset.univ
      = fun i : S2048x1024.Idx => if (i 0).val = n then w (ix2 (0 : Fin 1) (i 1 : Fin 1024)) else f i :=
  (View.write_whole_slice_unit cc0_stg3_0 off S1x1024.size inb f w).trans (upd_row f w off n h _)

theorem stepS (c : Dev nD) (T : ℕ → ℕ) (hT : ∀ s, T s ≤ 2048) (f : S1793.Idx → BitVec 32)
    (hf : ∀ s : S1793.Idx, (s 0).val < 1792 → f s = BitVec.ofNat 32 (T (s 0).val)) (o : ℕ) (ho : o < 4)
    (y : S448x1024.Idx → F .f32) (f0 : S2048x1024.Idx → F .f32) (k : ℕ) (hk : k < 448) (u v : Unit)
    (offS : Fin 1 → ℕ) (inbS) (hS : offS = ![448 * o + k]) (offY : Fin 2 → ℕ) (inbY) (hY : offY = ![k, 0]) :
    invS (F := F) c T f o y f0 k u
      ⊢ wp frame (wpE defs₀ 𝒱₀ (c : Thread nD τ) none) Set.univ (scatProg offS inbS offY inbY) (invS (F := F) c T f o y f0 (k + 1)) := by
  unfold invS scatProg
  simp only [smemLoad, Prog.lift, Prog.bind_op, Prog.bind_ret, Prog.pure_eq_ret, smemLoadElt_bind]
  iintro ⟨HS, HY, HO⟩
  iapply (wp_smemLoadElt_named 𝒱₀ (c : Thread nD τ) none Set.univ (m := sM) (r := Rect.unit (s := S1793) offS S1.size inbS)) $$ HS
  iintro HS %w %hw
  rw [rds offS _ ⟨448 * o + k, by omega⟩ hS, hf _ (show 448 * o + k < 1792 by omega)] at hw
  change w = BitVec.ofNat 32 (T (448 * o + k)) at hw
  have hle := hT (448 * o + k)
  subst hw
  rw [wp_assume_of 𝒱₀ (c : Thread nD τ) none Set.univ (chk4_of _ hle)]
  by_cases h : k0_cond1 (BitVec.ofNat 32 (T (448 * o + k))) = 1#1
  · rw [dif_pos h]
    simp only [Prog.bind_op, Prog.bind_ret]
    iapply (wp_load 𝒱₀ (c : Thread nD τ) none Set.univ (m := yM) (Finset.subset_univ _)) $$ HY; iintro HY
    rw [rdy _ _ ⟨k, hk⟩ hY]
    iapply (wp_load 𝒱₀ (c : Thread nD τ) none Set.univ (m := oM) (Finset.subset_univ _)) $$ HO; iintro HO
    iapply (wp_store 𝒱₀ (c : Thread nD τ) none Set.univ (m := oM)
      (r := Rect.unit (s := S2048x1024) (k0_off11 (BitVec.ofNat 32 (T (448 * o + k)))) S1x1024.size (k0_off11_inb _ (chk4_of _ hle) h))
      (Mk := Finset.univ) (Finset.subset_univ _)) $$ HO; iintro HO
    rw [wp_ret]; imodintro
    isplitl [HS]; · iexact HS
    isplitl [HY]; · iexact HY
    have hW : (oM.access (Rect.unit (s := S2048x1024) (k0_off11 (BitVec.ofNat 32 (T (448 * o + k)))) S1x1024.size (k0_off11_inb _ (chk4_of _ hle) h))).write (Elt F)
        (scat T o y f0 k) (fun x : S1x1024.Idx => y (ix2 (⟨k, hk⟩ : Fin 448) (x 1 : Fin 1024))) Finset.univ = scat T o y f0 (k + 1) := by
      rw [wro _ _ (T (448 * o + k)) (off11_eq _ hle)]
      funext i
      have hmin : (⟨min k 447, by omega⟩ : Fin 448) = ⟨k, hk⟩ := Fin.ext (show min k 447 = k by omega)
      rw [scat_succ, hmin]
      rfl
    rw [← hW]
    iexact HO
  · rw [dif_neg h]
    simp only [Prog.bind_ret]
    rw [wp_ret]; imodintro
    isplitl [HS]; · iexact HS
    isplitl [HY]; · iexact HY
    have hn : ¬ T (448 * o + k) < 2048 := fun h' => h ((cond1_iff _ hle).mpr h')
    have hW : scat T o y f0 k = scat T o y f0 (k + 1) := by
      funext i
      have hi : (i 0).val < 2048 := (i 0).isLt
      show _ = if (i 0).val = T (448 * o + k) then _ else scat T o y f0 k i
      rw [if_neg (by omega)]
    rw [← hW]
    iexact HO

abbrev t5B (d0 : Dev nD) (v2 v4 v6 : BitVec 32) (v98 : FVec F S2048x1024 .f32) : Fin k0_t5_loop.trips → Unit → Prog (TpuEff nD τ sig (Elt F) Λ₀ .tc) Unit :=
  k0_t5_body xM (wh _) rM (wh _) wM (wh _) oM (wh _) gM (wh _) yM (wh _) cM (wh _) sM (wh _) nM (wh _) cc0_scratch5 cc0_scratch6 d0 v2 v4 v6 v98
abbrev t6B (d0 : Dev nD) (v4 : BitVec 32) : Fin k0_t6_loop.trips → Unit → Prog (TpuEff nD τ sig (Elt F) Λ₀ .tc) Unit :=
  k0_t6_body xM (wh _) rM (wh _) wM (wh _) oM (wh _) gM (wh _) yM (wh _) cM (wh _) sM (wh _) nM (wh _) cc0_scratch5 cc0_scratch6 d0 v4
abbrev t7B (d0 : Dev nD) (v4 v6 : BitVec 32) (v148 : FVec F S448x1024 .f32) (v149 : Vec F S448x1024 .f32) : Fin k0_t7_loop.trips → Unit → Prog (TpuEff nD τ sig (Elt F) Λ₀ .tc) Unit :=
  k0_t7_body xM (wh _) rM (wh _) wM (wh _) oM (wh _) gM (wh _) yM (wh _) cM (wh _) sM (wh _) nM (wh _) cc0_scratch5 cc0_scratch6 d0 v4 v6 v148 v149
abbrev t8B (d0 : Dev nD) (v2 : BitVec 32) (v175 : FVec F S448x1024 .f32) : Fin k0_t8_loop.trips → Unit → Prog (TpuEff nD τ sig (Elt F) Λ₀ .tc) Unit :=
  k0_t8_body xM (wh _) rM (wh _) wM (wh _) oM (wh _) gM (wh _) yM (wh _) cM (wh _) sM (wh _) nM (wh _) cc0_scratch5 cc0_scratch6 d0 v2 v175

theorem t5_trips : k0_t5_loop.trips = 448 := by decide
theorem t6_trips : k0_t6_loop.trips = 448 := by decide
theorem t7_trips : k0_t7_loop.trips = 448 := by decide
theorem t8_trips : k0_t8_loop.trips = 448 := by decide

section Scatters
variable (c : Dev nD) (T : ℕ → ℕ) (hT : ∀ s, T s ≤ 2048) (f : S1793.Idx → BitVec 32)
    (hf : ∀ s : S1793.Idx, (s 0).val < 1792 → f s = BitVec.ofNat 32 (T (s 0).val))
    (y : S448x1024.Idx → F .f32) (f0 : S2048x1024.Idx → F .f32)
include hT hf

theorem step5 (v2 v4 v6 : BitVec 32) (v98) (k : Fin k0_t5_loop.trips) (acc : Unit) :
    invS (F := F) c T f c.val y f0 k acc ⊢ wp frame (wpE defs₀ 𝒱₀ (c : Thread nD τ) none) Set.univ (t5B c v2 v4 v6 v98 k acc) (invS (F := F) c T f c.val y f0 (k.val + 1)) :=
  stepS c T hT f hf c.val c.isLt y f0 k.val (lt_of_lt_of_eq k.isLt t5_trips) acc acc (k0_off9 c k) (k0_off9_inb c k) (k0_off9_eq c k) (k0_off10 k) (k0_off10_inb k) (k0_off10_eq k)

theorem step6 (v4 : BitVec 32) (k : Fin k0_t6_loop.trips) (acc : Unit) :
    invS (F := F) c T f ((c.val + 3) % 4) y f0 k acc ⊢ wp frame (wpE defs₀ 𝒱₀ (c : Thread nD τ) none) Set.univ (t6B c v4 k acc) (invS (F := F) c T f ((c.val + 3) % 4) y f0 (k.val + 1)) :=
  stepS c T hT f hf _ (Nat.mod_lt _ (by decide)) y f0 k.val (lt_of_lt_of_eq k.isLt t6_trips) acc acc (k0_off12 c k) (k0_off12_inb c k) (k0_off12_eq c k) (k0_off13 k) (k0_off13_inb k) (k0_off13_eq k)

theorem step7 (v4 v6 : BitVec 32) (v148 v149) (k : Fin k0_t7_loop.trips) (acc : Unit) :
    invS (F := F) c T f ((c.val + 1) % 4) y f0 k acc ⊢ wp frame (wpE defs₀ 𝒱₀ (c : Thread nD τ) none) Set.univ (t7B c v4 v6 v148 v149 k acc) (invS (F := F) c T f ((c.val + 1) % 4) y f0 (k.val + 1)) :=
  stepS c T hT f hf _ (Nat.mod_lt _ (by decide)) y f0 k.val (lt_of_lt_of_eq k.isLt t7_trips) acc acc (k0_off15 c k) (k0_off15_inb c k) (k0_off15_eq c k) (k0_off16 k) (k0_off16_inb k) (k0_off16_eq k)

theorem step8 (v2 : BitVec 32) (v175) (k : Fin k0_t8_loop.trips) (acc : Unit) :
    invS (F := F) c T f ((c.val + 2) % 4) y f0 k acc ⊢ wp frame (wpE defs₀ 𝒱₀ (c : Thread nD τ) none) Set.univ (t8B c v2 v175 k acc) (invS (F := F) c T f ((c.val + 2) % 4) y f0 (k.val + 1)) :=
  stepS c T hT f hf _ (Nat.mod_lt _ (by decide)) y f0 k.val (lt_of_lt_of_eq k.isLt t8_trips) acc acc (k0_off18 c k) (k0_off18_inb c k) (k0_off18_eq c k) (k0_off19 k) (k0_off19_inb k) (k0_off19_eq k)

end Scatters

end Cert.Moe
-- ==== Proof.Comm.lean ====
/-
# The communication buffer: its pieces and what lands in them

The four slots of the communication buffer as sets of elements (the last slot in its two halves), the one function
of a device that gives the contents every slot holds once written, and the four transfers: what each writes on its
destination is that function of the receiving device.
-/
module

public import proofs.«01_k».proof.Proof.Loops

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
theorem prv_prv_nxt (c : Dev nD) : prv (prv (nxt c)) = prv c := by revert c; decide
theorem prv_prv_prv (c : Dev nD) : prv (prv (prv c)) = nxt c := by revert c; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)

def ring : Dev nD ≃ Dev nD := ⟨nxt, prv, prv_nxt, nxt_prv⟩

/-! ## The pieces -/

/-- Rows `a ≤ r < b` of slot `k`. -/
def rows (k a b : ℕ) : Finset S4x448x1024.Idx :=
  Finset.univ.filter fun i => (i 0).val = k ∧ a ≤ (i 1).val ∧ (i 1).val < b

theorem mem_rows {k a b : ℕ} {i : S4x448x1024.Idx} : i ∈ rows k a b ↔ (i 0).val = k ∧ a ≤ (i 1).val ∧ (i 1).val < b := by
  unfold rows; rw [Finset.mem_filter]; exact ⟨fun h => h.2, fun h => ⟨Finset.mem_univ _, h⟩⟩

abbrev m0 : Memref sig .tc .vmem S448x1024 .bf16 :=
  ((cM : Memref sig .tc .vmem S4x448x1024 .bf16).slice (Rect.unit (s := S4x448x1024) ![0, 0, 0] S1x448x1024.size inb_S4x448x1024_S1x448x1024_0_0_0) (fun _ => rfl)).squeeze S448x1024 squeezes_S1x448x1024_S448x1024
abbrev m1 : Memref sig .tc .vmem S448x1024 .bf16 :=
  ((cM : Memref sig .tc .vmem S4x448x1024 .bf16).slice (Rect.unit (s := S4x448x1024) ![1, 0, 0] S1x448x1024.size inb_S4x448x1024_S1x448x1024_1_0_0) (fun _ => rfl)).squeeze S448x1024 squeezes_S1x448x1024_S448x1024
abbrev m2 : Memref sig .tc .vmem S448x1024 .bf16 :=
  ((cM : Memref sig .tc .vmem S4x448x1024 .bf16).slice (Rect.unit (s := S4x448x1024) ![2, 0, 0] S1x448x1024.size inb_S4x448x1024_S1x448x1024_2_0_0) (fun _ => rfl)).squeeze S448x1024 squeezes_S1x448x1024_S448x1024
abbrev m1l : Memref sig .tc .vmem S224x1024 .bf16 :=
  ((cM : Memref sig .tc .vmem S4x448x1024 .bf16).slice (Rect.unit (s := S4x448x1024) ![1, 0, 0] S1x224x1024.size inb_S4x448x1024_S1x224x1024_1_0_0) (fun _ => rfl)).squeeze S224x1024 squeezes_S1x224x1024_S224x1024
abbrev m3l : Memref sig .tc .vmem S224x1024 .bf16 :=
  ((cM : Memref sig .tc .vmem S4x448x1024 .bf16).slice (Rect.unit (s := S4x448x1024) ![3, 0, 0] S1x224x1024.size inb_S4x448x1024_S1x224x1024_3_0_0) (fun _ => rfl)).squeeze S224x1024 squeezes_S1x224x1024_S224x1024
abbrev m2h : Memref sig .tc .vmem S224x1024 .bf16 :=
  ((cM : Memref sig .tc .vmem S4x448x1024 .bf16).slice (Rect.unit (s := S4x448x1024) ![2, 224, 0] S1x224x1024.size inb_S4x448x1024_S1x224x1024_2_224_0) (fun _ => rfl)).squeeze S224x1024 squeezes_S1x224x1024_S224x1024
abbrev m3h : Memref sig .tc .vmem S224x1024 .bf16 :=
  ((cM : Memref sig .tc .vmem S4x448x1024 .bf16).slice (Rect.unit (s := S4x448x1024) ![3, 224, 0] S1x224x1024.size inb_S4x448x1024_S1x224x1024_3_224_0) (fun _ => rfl)).squeeze S224x1024 squeezes_S1x224x1024_S224x1024

theorem mem_unit3 {k a n : ℕ} {inb} {i : S4x448x1024.Idx} :
    i ∈ (Rect.unit (s := S4x448x1024) ![k, a, 0] ![1, n, 1024] inb).set ↔ i ∈ rows k a (a + n) := by
  rw [Rect.mem_set_unit, mem_rows]
  have h2 : (i 2).val < 1024 := (i 2).isLt
  constructor
  · intro h
    have h0 := h 0
    have h1 := h 1
    change k ≤ (i 0).val ∧ (i 0).val < k + 1 at h0
    change a ≤ (i 1).val ∧ (i 1).val < a + n at h1
    omega
  · intro h d
    match d with
    | ⟨0, _⟩ => show k ≤ (i 0).val ∧ (i 0).val < k + 1; omega
    | ⟨1, _⟩ => show a ≤ (i 1).val ∧ (i 1).val < a + n; omega
    | ⟨2, _⟩ => show 0 ≤ (i 2).val ∧ (i 2).val < 0 + 1024; omega

theorem unit_rows (k a n : ℕ) (inb) : (Rect.unit (s := S4x448x1024) ![k, a, 0] ![1, n, 1024] inb).set = rows k a (a + n) :=
  Finset.ext fun _ => mem_unit3

theorem set_m0 : (m0 : Memref sig .tc .vmem S448x1024 .bf16).view.set = rows 0 0 448 :=
  (View.set_reshape _ _).trans ((View.set_slice_whole cc0_scratch2 _).trans (unit_rows 0 0 448 _))
theorem set_m1 : (m1 : Memref sig .tc .vmem S448x1024 .bf16).view.set = rows 1 0 448 :=
  (View.set_reshape _ _).trans ((View.set_slice_whole cc0_scratch2 _).trans (unit_rows 1 0 448 _))
theorem set_m2 : (m2 : Memref sig .tc .vmem S448x1024 .bf16).view.set = rows 2 0 448 :=
  (View.set_reshape _ _).trans ((View.set_slice_whole cc0_scratch2 _).trans (unit_rows 2 0 448 _))
theorem set_m1l : (m1l : Memref sig .tc .vmem S224x1024 .bf16).view.set = rows 1 0 224 :=
  (View.set_reshape _ _).trans ((View.set_slice_whole cc0_scratch2 _).trans (unit_rows 1 0 224 _))
theorem set_m3l : (m3l : Memref sig .tc .vmem S224x1024 .bf16).view.set = rows 3 0 224 :=
  (View.set_reshape _ _).trans ((View.set_slice_whole cc0_scratch2 _).trans (unit_rows 3 0 224 _))
theorem set_m2h : (m2h : Memref sig .tc .vmem S224x1024 .bf16).view.set = rows 2 224 448 :=
  (View.set_reshape _ _).trans ((View.set_slice_whole cc0_scratch2 _).trans (unit_rows 2 224 224 _))
theorem set_m3h : (m3h : Memref sig .tc .vmem S224x1024 .bf16).view.set = rows 3 224 448 :=
  (View.set_reshape _ _).trans ((View.set_slice_whole cc0_scratch2 _).trans (unit_rows 3 224 224 _))

theorem rows_disj {k a b k' a' b' : ℕ} (h : k ≠ k' ∨ b ≤ a' ∨ b' ≤ a) : Disjoint (rows k a b) (rows k' a' b') :=
  Finset.disjoint_left.mpr fun i hi hj => by rw [mem_rows] at hi hj; omega
theorem rows_split (k a b d : ℕ) (h : a ≤ b) (h' : b ≤ d) : rows k a d = rows k a b ∪ rows k b d := by
  ext i; rw [Finset.mem_union, mem_rows, mem_rows, mem_rows]; omega
theorem rows_all : (Finset.univ : Finset S4x448x1024.Idx)
    = rows 0 0 448 ∪ (rows 1 0 448 ∪ (rows 2 0 448 ∪ (rows 3 0 224 ∪ rows 3 224 448))) := by
  ext i
  have h0 : (i 0).val < 4 := (i 0).isLt
  have h1 : (i 1).val < 448 := (i 1).isLt
  simp only [Finset.mem_union, mem_rows, Finset.mem_univ, true_iff]
  omega

/-! ## Contents -/

/-- Whose block slot `s` of device `c` comes to hold: its own, its left neighbour's, its right neighbour's, and the
    block of the device opposite. -/
def org (c : Dev nD) (s : ℕ) : Dev nD := match s with
  | 0 => c
  | 1 => prv c
  | 2 => nxt c
  | _ => prv (prv c)

/-- The communication buffer of device `c` once all is written, when device `d` sends the block `B d`. -/
def CC (B : Dev nD → S1x448x1024.Idx → F .bf16) (c : Dev nD) : S4x448x1024.Idx → F .bf16 :=
  fun i => B (org c (i 0).val) (ix3 (0 : Fin 1) (i 1 : Fin 448) (i 2 : Fin 1024))

variable (B : Dev nD → S1x448x1024.Idx → F .bf16)

omit [FloatOps F] in
/-- Reading slot `k` of the finished buffer gives that slot's block. -/
theorem read_slot (c : Dev nD) (k : ℕ) (inb) :
    (cM : Memref sig .tc .vmem S4x448x1024 .bf16).view.readAt (Elt F) (Rect.unit (s := S4x448x1024) ![k, 0, 0] S1x448x1024.size inb).toLoadRect (CC B c)
      = B (org c k) := by
  funext x
  have h0 : (x 0).val < 1 := (x 0).isLt
  have e0 : k + 1 * (x 0).val = k := by omega
  show B (org c (k + 1 * (x 0).val)) _ = _
  rw [e0]
  refine congrArg (B (org c k)) (funext fun a => ?_)
  match a with
  | ⟨0, _⟩ => exact Fin.ext (show 0 = (x 0).val by omega)
  | ⟨1, _⟩ => exact Fin.ext (show 0 + 1 * (x 1).val = (x 1).val by omega)
  | ⟨2, _⟩ => exact Fin.ext (show 0 + 1 * (x 2).val = (x 2).val by omega)

theorem upd_slot {α : Type} {n m : ℕ} (f : (⟨3, ![4, n, m]⟩ : Shape).Idx → α) (w : (⟨3, ![1, n, m]⟩ : Shape).Idx → α)
    (off : Fin 3 → ℕ) (h : off = ![0, 0, 0]) (hs : (⟨3, ![4, n, m]⟩ : Shape).Slices off ⟨3, ![1, n, m]⟩) :
    updateSlice f w off hs = fun i => if (i 0).val = 0 then w (ix3 (0 : Fin 1) (i 1 : Fin n) (i 2 : Fin m)) else f i := by
  subst h
  funext i
  rw [updateSlice_apply]
  have h1 : (i 1).val < n := (i 1).isLt
  have h2 : (i 2).val < m := (i 2).isLt
  refine dite_congr (propext ⟨fun h => ?_, fun h a => ?_⟩) (fun h => congrArg w (funext fun a => ?_)) (fun _ => rfl)
  · have := h 0
    change 0 ≤ (i 0).val ∧ (i 0).val < 0 + 1 at this
    omega
  · match a with
    | ⟨0, _⟩ => show 0 ≤ (i 0).val ∧ (i 0).val < 0 + 1; omega
    | ⟨1, _⟩ => show 0 ≤ (i 1).val ∧ (i 1).val < 0 + n; omega
    | ⟨2, _⟩ => show 0 ≤ (i 2).val ∧ (i 2).val < 0 + m; omega
  · have h0 : (i 0).val = 0 := h
    match a with
    | ⟨0, _⟩ => exact Fin.ext (show (i 0).val - 0 = 0 by omega)
    | ⟨1, _⟩ => exact Fin.ext (show (i 1).val - 0 = (i 1).val by omega)
    | ⟨2, _⟩ => exact Fin.ext (show (i 2).val - 0 = (i 2).val by omega)

omit [FloatOps F] in
theorem write_slot (off : Fin 3 → ℕ) (inb) (h : off = ![0, 0, 0]) (f : (cM : Memref sig .tc .vmem S4x448x1024 .bf16).view.ty.Contents (Elt F))
    (w : S1x448x1024.Idx → F .bf16) :
    ((cM : Memref sig .tc .vmem S4x448x1024 .bf16).access (Rect.unit (s := S4x448x1024) off S1x448x1024.size inb)).write (Elt F) f w Finset.univ
      = fun i : S4x448x1024.Idx => if (i 0).val = 0 then w (ix3 (0 : Fin 1) (i 1 : Fin 448) (i 2 : Fin 1024)) else f i :=
  (View.write_whole_slice_unit cc0_scratch2 off S1x448x1024.size inb f w).trans (upd_slot f w off h _)

omit [FloatOps F] in
/-- Writing its own block into slot 0 makes that slot what the finished buffer holds there. -/
theorem write_slot0 (c : Dev nD) (inb) (f : (cM : Memref sig .tc .vmem S4x448x1024 .bf16).view.ty.Contents (Elt F)) (i : S4x448x1024.Idx) (hi : i ∈ rows 0 0 448) :
    ((cM : Memref sig .tc .vmem S4x448x1024 .bf16).access (Rect.unit (s := S4x448x1024) ![0, 0, 0] S1x448x1024.size inb)).write (Elt F) f (B c) Finset.univ i
      = CC B c i := by
  have h0 : (i 0).val = 0 := (mem_rows.mp hi).1
  rw [write_slot _ inb rfl]
  refine (if_pos h0).trans ?_
  unfold CC
  rw [h0]
  rfl

/-- The element of the buffer at row `r` of the piece that starts at row `a` of slot `k`. -/
theorem emb_piece (n k a : ℕ) (inb) (hn : (⟨2, ![n, 1024]⟩ : Shape).numel = (⟨3, ![1, n, 1024]⟩ : Shape).numel) (x : (⟨2, ![n, 1024]⟩ : Shape).Idx) (d : Fin 3) :
    (((Rect.unit (s := S4x448x1024) ![k, a, 0] ![1, n, 1024] inb).emb (Shape.reshapeEquiv hn x) : S4x448x1024.Idx) d).val
      = (![k, a + (x 0).val, (x 1).val] : Fin 3 → ℕ) d := by
  rw [Shape.reshapeEquiv_cons_one hn x]
  match d with
  | ⟨0, _⟩ => show k + 1 * 0 = k; omega
  | ⟨1, _⟩ => show a + 1 * (x 0).val = a + (x 0).val; omega
  | ⟨2, _⟩ => show 0 + 1 * (x 1).val = (x 1).val; omega

omit [FloatOps F] in
/-- A transfer of a piece: it writes on the receiving device `c'` what the finished buffer holds there, when the slot
    sent from and the slot sent to hold the same device's block. -/
theorem land_of (c c' : Dev nD) (n k a k' a' : ℕ) (inb inb' hn)
    (ho : org c k = org c' k') (ha : a = a') (x : (⟨2, ![n, 1024]⟩ : Shape).Idx) :
    CC B c ((Rect.unit (s := S4x448x1024) ![k, a, 0] ![1, n, 1024] inb).emb (Shape.reshapeEquiv hn x))
      = CC B c' ((Rect.unit (s := S4x448x1024) ![k', a', 0] ![1, n, 1024] inb').emb (Shape.reshapeEquiv hn x)) := by
  subst ha
  have e := fun d => emb_piece n k a inb hn x d
  have e' := fun d => emb_piece n k' a inb' hn x d
  generalize (Rect.unit (s := S4x448x1024) ![k, a, 0] ![1, n, 1024] inb).emb (Shape.reshapeEquiv hn x) = i at e ⊢
  generalize (Rect.unit (s := S4x448x1024) ![k', a, 0] ![1, n, 1024] inb').emb (Shape.reshapeEquiv hn x) = i' at e' ⊢
  have e0 : (i 0).val = k := e 0
  have e0' : (i' 0).val = k' := e' 0
  unfold CC
  rw [e0, e0', ho]
  refine congrArg (B (org c' k')) (funext fun d => ?_)
  match d with
  | ⟨0, _⟩ => rfl
  | ⟨1, _⟩ => exact Fin.ext ((e 1).trans (e' 1).symm)
  | ⟨2, _⟩ => exact Fin.ext ((e 2).trans (e' 2).symm)

omit [FloatOps F] in
theorem land1 (c : Dev nD) (fd : S4x448x1024.Idx → F .bf16) (i : S4x448x1024.Idx) (hi : i ∈ (m1 : Memref sig .tc .vmem S448x1024 .bf16).view.set) :
    (m1 : Memref sig .tc .vmem S448x1024 .bf16).view.write (Elt F) fd ((m0 : Memref sig .tc .vmem S448x1024 .bf16).view.read (Elt F) (CC B c)) Finset.univ i = CC B (nxt c) i := by
  obtain ⟨x, -, rfl⟩ := Finset.mem_map.mp hi
  refine (View.write_emb_of_mem (v := (m1 : Memref sig .tc .vmem S448x1024 .bf16).view) _ _ (Finset.mem_univ x)).trans ?_
  exact land_of B c (nxt c) 448 0 0 1 0 _ _ _ (prv_nxt c).symm rfl x
omit [FloatOps F] in
theorem land2 (c : Dev nD) (fd : S4x448x1024.Idx → F .bf16) (i : S4x448x1024.Idx) (hi : i ∈ (m2 : Memref sig .tc .vmem S448x1024 .bf16).view.set) :
    (m2 : Memref sig .tc .vmem S448x1024 .bf16).view.write (Elt F) fd ((m0 : Memref sig .tc .vmem S448x1024 .bf16).view.read (Elt F) (CC B c)) Finset.univ i = CC B (prv c) i := by
  obtain ⟨x, -, rfl⟩ := Finset.mem_map.mp hi
  refine (View.write_emb_of_mem (v := (m2 : Memref sig .tc .vmem S448x1024 .bf16).view) _ _ (Finset.mem_univ x)).trans ?_
  exact land_of B c (prv c) 448 0 0 2 0 _ _ _ (nxt_prv c).symm rfl x
omit [FloatOps F] in
theorem land3l (c : Dev nD) (fd : S4x448x1024.Idx → F .bf16) (i : S4x448x1024.Idx) (hi : i ∈ (m3l : Memref sig .tc .vmem S224x1024 .bf16).view.set) :
    (m3l : Memref sig .tc .vmem S224x1024 .bf16).view.write (Elt F) fd ((m1l : Memref sig .tc .vmem S224x1024 .bf16).view.read (Elt F) (CC B c)) Finset.univ i = CC B (nxt c) i := by
  obtain ⟨x, -, rfl⟩ := Finset.mem_map.mp hi
  refine (View.write_emb_of_mem (v := (m3l : Memref sig .tc .vmem S224x1024 .bf16).view) _ _ (Finset.mem_univ x)).trans ?_
  exact land_of B c (nxt c) 224 1 0 3 0 _ _ _ (prv_prv_nxt c).symm rfl x
omit [FloatOps F] in
theorem land3h (c : Dev nD) (fd : S4x448x1024.Idx → F .bf16) (i : S4x448x1024.Idx) (hi : i ∈ (m3h : Memref sig .tc .vmem S224x1024 .bf16).view.set) :
    (m3h : Memref sig .tc .vmem S224x1024 .bf16).view.write (Elt F) fd ((m2h : Memref sig .tc .vmem S224x1024 .bf16).view.read (Elt F) (CC B c)) Finset.univ i = CC B (prv c) i := by
  obtain ⟨x, -, rfl⟩ := Finset.mem_map.mp hi
  refine (View.write_emb_of_mem (v := (m3h : Memref sig .tc .vmem S224x1024 .bf16).view) _ _ (Finset.mem_univ x)).trans ?_
  exact land_of B c (prv c) 224 2 224 3 224 _ _ _ (prv_prv_prv c).symm rfl x

end Cert.Moe
-- ==== Proof.Sched.lean ====
/-
# What the run computes, and the schedule of its semaphores

The contents of every buffer along the run as functions of the launch memory; then, per semaphore a device waits on,
what each of its signals hands over; what a device owes at each point of its program, and the order of the waits that
makes the protocol free of cycles; and the data the pipeline rule is used at.
-/
module

public import proofs.«01_k».proof.Proof.Comm

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

def s₀ : MemSt nD τ sig (Elt F) := ⟨m, fun _ => 0, ρ⟩

/-! ## Contents -/

/-- The staged tokens, routing and experts of device `c`. -/
def xs (c : Dev nD) : S2048x1024.Idx → F .f32 :=
  (win0_0.blk (0 : Fin 1)).view.read (Elt F) ((s₀ m ρ).mem ((c : Thread nD τ).loc main_arg0))
def rs (c : Dev nD) : S2048x1.Idx → BitVec 32 :=
  (win0_1.blk (0 : Fin 1)).view.read (Elt F) ((s₀ m ρ).mem ((c : Thread nD τ).loc main_arg2))
def ws (c : Dev nD) : S8x1024x1024.Idx → F .f32 :=
  (win0_2.blk (0 : Fin 1)).view.read (Elt F) ((s₀ m ρ).mem ((c : Thread nD τ).loc main_arg3))

/-- The token in slot `s`, or 2048. -/
def tok (R : S2048x1.Idx → BitVec 32) (s : ℕ) : ℕ := slotTok (eOf R) 2048 s

theorem tok_le (R : S2048x1.Idx → BitVec 32) (s : ℕ) : tok R s ≤ 2048 := slotTok_le _ 2048 s (le_refl _)

/-- Device `c`'s gathered token rows. -/
def gath (X : S2048x1024.Idx → F .f32) (T : ℕ → ℕ) (o : ℕ) : S448x1024.Idx → F .f32 :=
  fun i => X (ix2 (⟨min (T (448 * o + (i 0).val)) 2047, by omega⟩ : Fin 2048) (i 1 : Fin 1024))

theorem div56 (i : S448x1024.Idx) : (i 0).val / 56 < 8 := by
  have h : (i 0).val < 448 := (i 0).isLt
  omega
theorem row56 (J : ℕ) (hJ : J < 8) (x : S56x1024.Idx) : 56 * J + (x 0).val < 448 := by
  have h : (x 0).val < 56 := (x 0).isLt
  omega

/-- The eight experts applied to their 56 rows each. -/
def expert (G : S448x1024.Idx → F .f32) (W : S8x1024x1024.Idx → F .f32) (J : ℕ) (hJ : J < 8) : S56x1024.Idx → F .f32 :=
  k0_pay2 (fun x : S56x1024.Idx => G (ix2 (⟨56 * J + (x 0).val, row56 J hJ x⟩ : Fin 448) (x 1 : Fin 1024)))
    (fun x : S1x1024x1024.Idx => W (ix3 (⟨J, hJ⟩ : Fin 8) (x 1 : Fin 1024) (x 2 : Fin 1024)))

def experts (G : S448x1024.Idx → F .f32) (W : S8x1024x1024.Idx → F .f32) : S448x1024.Idx → F .f32 :=
  fun i => expert G W ((i 0).val / 56) (div56 i) (ix2 (⟨(i 0).val % 56, Nat.mod_lt _ (by decide)⟩ : Fin 56) (i 1 : Fin 1024))

/-- Device `c`'s own rows, and its block as sent. -/
def yOwn (c : Dev nD) : S448x1024.Idx → F .f32 := experts (gath (xs m ρ c) (tok (rs m ρ c)) c.val) (ws m ρ c)
def blkOf (c : Dev nD) : S1x448x1024.Idx → F .bf16 := k0_pay10 (yOwn m ρ c)

/-- The result of device `c` after each of the four scatter loops. -/
def out1 (c : Dev nD) : S2048x1024.Idx → F .f32 := scat (tok (rs m ρ c)) c.val (yOwn m ρ c) (k0_pay11 (F := F)) 448
def out2 (c : Dev nD) : S2048x1024.Idx → F .f32 :=
  scat (tok (rs m ρ c)) ((c.val + 3) % 4) (k0_pay12 (blkOf m ρ (prv c))) (out1 m ρ c) 448
def out3 (c : Dev nD) : S2048x1024.Idx → F .f32 :=
  scat (tok (rs m ρ c)) ((c.val + 1) % 4) (k0_pay14 (k0_pay13 (blkOf m ρ (nxt c)))) (out2 m ρ c) 448
def out4 (c : Dev nD) : S2048x1024.Idx → F .f32 :=
  scat (tok (rs m ρ c)) ((c.val + 2) % 4) (k0_pay15 (blkOf m ρ (prv (prv c)))) (out3 m ρ c) 448

/-! ## The cells -/

abbrev barS : Sem sig := (SemArray.scalar (sig.barrier 0 rfl) : Sems sig S_).sem
abbrev dq (n : ℕ) (h : n < 12 := by decide) : DmaSem sig := ⟨n, h⟩

theorem sq0 : ((cc0_scratch5.slice (Rect.unit (s := S4) ![0] S1.size inb_S4_S1_0)).squeeze S_ squeezes_S1_S_).sem = dq 4 := rfl
theorem sq1 : ((cc0_scratch5.slice (Rect.unit (s := S4) ![1] S1.size inb_S4_S1_1)).squeeze S_ squeezes_S1_S_).sem = dq 5 := rfl
theorem sq2 : ((cc0_scratch5.slice (Rect.unit (s := S4) ![2] S1.size inb_S4_S1_2)).squeeze S_ squeezes_S1_S_).sem = dq 6 := rfl
theorem sq3 : ((cc0_scratch5.slice (Rect.unit (s := S4) ![3] S1.size inb_S4_S1_3)).squeeze S_ squeezes_S1_S_).sem = dq 7 := rfl
theorem rq0 : ((cc0_scratch6.slice (Rect.unit (s := S4) ![0] S1.size inb_S4_S1_0)).squeeze S_ squeezes_S1_S_).sem = dq 8 := rfl
theorem rq1 : ((cc0_scratch6.slice (Rect.unit (s := S4) ![1] S1.size inb_S4_S1_1)).squeeze S_ squeezes_S1_S_).sem = dq 9 := rfl
theorem rq2 : ((cc0_scratch6.slice (Rect.unit (s := S4) ![2] S1.size inb_S4_S1_2)).squeeze S_ squeezes_S1_S_).sem = dq 10 := rfl
theorem rq3 : ((cc0_scratch6.slice (Rect.unit (s := S4) ![3] S1.size inb_S4_S1_3)).squeeze S_ squeezes_S1_S_).sem = dq 11 := rfl

abbrev bar (c : Dev nD) : GSem nD τ sig := ((c : Thread nD τ), .reg barS)
abbrev dc (c : Dev nD) (q : DmaSem sig) : GSem nD τ sig := ((c : Thread nD τ), .dma q)

/-- The kernel's own eight semaphores, and with the barrier's the nine cells of a device. -/
abbrev osem : Fin 8 → SemLoc sig := fun
  | 0 => .dma (dq 4) | 1 => .dma (dq 5) | 2 => .dma (dq 6) | 3 => .dma (dq 7)
  | 4 => .dma (dq 8) | 5 => .dma (dq 9) | 6 => .dma (dq 10) | 7 => .dma (dq 11)
abbrev csem : Fin 9 → SemLoc sig := fun
  | 0 => .reg barS
  | 1 => .dma (dq 4) | 2 => .dma (dq 5) | 3 => .dma (dq 6) | 4 => .dma (dq 7)
  | 5 => .dma (dq 8) | 6 => .dma (dq 9) | 7 => .dma (dq 10) | 8 => .dma (dq 11)
abbrev kcell (ck : Dev nD × Fin 9) : GSem nD τ sig := ((ck.1 : Thread nD τ), csem ck.2)

/-- What a transfer of a slot counts, and one of half a slot. -/
abbrev NA : ℕ := (m1 : Memref sig .tc .vmem S448x1024 .bf16).view.dmaCredit
abbrev NB : ℕ := (m3l : Memref sig .tc .vmem S224x1024 .bf16).view.dmaCredit
theorem NA_pos : 0 < NA := View.dmaCredit_pos _ (by decide)
theorem NB_pos : 0 < NB := View.dmaCredit_pos _ (by decide)

def amt (n : ℕ) : ℕ := if n = 4 ∨ n = 5 ∨ n = 8 ∨ n = 9 then NA else NB
theorem amt_pos (n : ℕ) : 0 < amt n := by
  unfold amt
  split
  · exact NA_pos
  · exact NB_pos

/-! ## The schedule -/

/-- A set of elements of device `c`'s communication buffer at contents `f`. -/
def cPts (c : Dev nD) (S : Finset S4x448x1024.Idx) (q : PosShare TreeShare) (f : S4x448x1024.Idx → F .bf16) : sProp 𝕄 :=
  ((c : Thread nD τ).loc cc0_scratch2) ↦[S]{q} f
omit [FloatOps F] in
instance cPts_storable (c : Dev nD) (S q) (f : S4x448x1024.Idx → F .bf16) : BI.Storable (upEmb : UEmb _ 𝕄) (cPts (F := F) c S q f) := by unfold cPts; infer_instance

/-- What a transfer's completion hands over on device `d`, by semaphore: the sender its source share back (4–7), the
    receiver the written piece (8–11). -/
def pay (B : Dev nD → S1x448x1024.Idx → F .bf16) (d : Dev nD) : ℕ → sProp 𝕄
  | 4 => cPts d (rows 0 0 448) fullShare.left (CC B d)
  | 5 => cPts d (rows 0 0 448) fullShare.right (CC B d)
  | 6 => cPts d (rows 1 0 224) fullShare.right (CC B d)
  | 7 => cPts d (rows 2 224 448) fullShare.right (CC B d)
  | 8 => cPts d (rows 1 0 448) fullShare (CC B d)
  | 9 => cPts d (rows 2 0 448) fullShare (CC B d)
  | 10 => cPts d (rows 3 0 224) fullShare (CC B d)
  | 11 => cPts d (rows 3 224 448) fullShare (CC B d)
  | _ => iprop(emp)

/-- What the two barrier signals to device `d` hand over: its right neighbour's pieces that `d`'s right transfers
    write, and its left neighbour's that the left transfers write. -/
def barT (d : Dev nD) : sProp 𝕄 := iprop((∃ f, cPts (F := F) (nxt d) (rows 1 0 448) fullShare f) ∗ ∃ f, cPts (F := F) (nxt d) (rows 3 0 224) fullShare f)
def barF (d : Dev nD) : sProp 𝕄 := iprop((∃ f, cPts (F := F) (prv d) (rows 2 0 448) fullShare f) ∗ ∃ f, cPts (F := F) (prv d) (rows 3 224 448) fullShare f)

omit [FloatOps F] in
instance pay_storable (B : Dev nD → S1x448x1024.Idx → F .bf16) (d : Dev nD) (n : ℕ) : BI.Storable (upEmb : UEmb _ 𝕄) (pay B d n) := by
  unfold pay; split <;> infer_instance
omit [FloatOps F] in
instance barT_storable (d : Dev nD) : BI.Storable (upEmb : UEmb _ 𝕄) (barT (F := F) d) := by unfold barT; infer_instance
omit [FloatOps F] in
instance barF_storable (d : Dev nD) : BI.Storable (upEmb : UEmb _ 𝕄) (barF (F := F) d) := by unfold barF; infer_instance

section Sched
variable (B : Dev nD → S1x448x1024.Idx → F .bf16)

def sched : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => amt q.val
  payload g _ d := match g.2 with | .reg _ => (if d then barT g.1.1 else barF g.1.1) | .dma q => pay B g.1.1 q.val
  amount_pos g _ _ _ := by
    rcases g with ⟨t, s | q⟩
    · exact Nat.one_pos
    · exact amt_pos _

omit [FloatOps F] in
instance sched_payload_storable (g : GSem nD τ sig) (r : ℕ) (d : Bool) : BI.Storable (upEmb : UEmb _ 𝕄) ((sched B).payload g r d) := by
  rcases g with ⟨t, s | q⟩
  · show BI.Storable upEmb (if d then barT t.1 else barF t.1)
    split <;> infer_instance
  · show BI.Storable upEmb (pay B t.1 q.val)
    infer_instance

omit [FloatOps F] in
theorem duties_bar (c : Dev nD) : (sched B).duties (bar c) 0 = Finset.univ := by dsimp only [sched]; exact if_pos ⟨rfl, rfl⟩
omit [FloatOps F] in
theorem duties_dma (c : Dev nD) (q : DmaSem sig) : (sched B).duties (dc c q) 0 = {false} := by dsimp only [sched]; exact if_pos ⟨rfl, rfl⟩
omit [FloatOps F] in
theorem duties_later (g : GSem nD τ sig) : ∀ r, 1 ≤ r → (sched B).duties g r = ∅ :=
  fun r hr => by dsimp only [sched]; rw [if_neg fun h => by omega]
omit [FloatOps F] in
theorem amount_bar (c : Dev nD) (d : Bool) : (sched B).amount (bar c) 0 d = 1 := rfl
omit [FloatOps F] in
theorem amount_dma (c : Dev nD) (q : DmaSem sig) (d : Bool) : (sched B).amount (dc c q) 0 d = amt q.val := rfl
omit [FloatOps F] in
theorem payload_dma (c : Dev nD) (q : DmaSem sig) (d : Bool) : (sched B).payload (dc c q) 0 d = pay B c q.val := rfl
omit [FloatOps F] in
theorem payload_bar_true (c : Dev nD) : (sched B).payload (bar c) 0 true = barT c := rfl
omit [FloatOps F] in
theorem payload_bar_false (c : Dev nD) : (sched B).payload (bar c) 0 false = barF c := rfl

omit [FloatOps F] in
theorem expect_bar (c : Dev nD) : (sched B).expect (bar c) 0 = 2 := by
  unfold Schedule.expect Schedule.amountOf
  rw [duties_bar, Finset.sum_congr rfl fun d _ => amount_bar B c d, Finset.sum_const, Finset.card_univ, Fintype.card_bool, smul_eq_mul]
omit [FloatOps F] in
theorem expect_dma (c : Dev nD) (q : DmaSem sig) : (sched B).expect (dc c q) 0 = amt q.val := by
  unfold Schedule.expect Schedule.amountOf; rw [duties_dma, Finset.sum_singleton, amount_dma]
omit [FloatOps F] in
theorem rest_bar (c : Dev nD) : bigSep ((sched B).duties (bar c) 0 \ ∅) (fun d => (sched B).payload (bar c) 0 d) = iprop(barF (F := F) c ∗ barT (F := F) c) := by
  rw [Finset.sdiff_empty, duties_bar, bigSep_univ_eq_bigSepL [false, true] (by decide) (by decide), bigSepL_cons_cons, bigSepL_singleton,
    payload_bar_false, payload_bar_true]
  rfl
omit [FloatOps F] in
theorem rest_dma (c : Dev nD) (q : DmaSem sig) :
    bigSep ((sched B).duties (dc c q) 0 \ ∅) (fun d => (sched B).payload (dc c q) 0 d) = pay B c q.val := by
  rw [Finset.sdiff_empty, duties_dma, bigSep_singleton, payload_dma]

end Sched

/-! ## Debts and levels -/

/-- Debts as a list of cells with their amounts, the next one paid first. -/
def debt : List (GSem nD τ sig × ℕ) → CellTallies nD τ sig Unit
  | [] => 0
  | a :: l => debt l + tallyAt a.1 () a.2

theorem debt_pos {l : List (GSem nD τ sig × ℕ)} {g : GSem nD τ sig} {u : Unit} (h : 0 < debt l g u) : ∃ a ∈ l, a.1 = g := by
  induction l with
  | nil => exact absurd h (Nat.lt_irrefl 0)
  | cons a l ih =>
    unfold debt at h
    rw [Pi.add_apply, Finsupp.add_apply, tallyAt_apply] at h
    by_cases ha : a.1 = g
    · exact ⟨a, List.mem_cons_self, ha⟩
    · rw [if_neg (fun h' => ha h'.1.symm), Nat.add_zero] at h
      obtain ⟨b, hb, hg⟩ := ih h
      exact ⟨b, List.mem_cons_of_mem _ hb, hg⟩

/-- The debts of device `c` before its last transfer, before its last two, and so on back to the launch. -/
def dl1 (c : Dev nD) : List (GSem nD τ sig × ℕ) := [(dc (prv c) (dq 11), NB)]
def dl2 (c : Dev nD) : List (GSem nD τ sig × ℕ) := (dc (nxt c) (dq 10), NB) :: dl1 c
def dl3 (c : Dev nD) : List (GSem nD τ sig × ℕ) := (dc (prv c) (dq 9), NA) :: dl2 c
def dl4 (c : Dev nD) : List (GSem nD τ sig × ℕ) := (dc (nxt c) (dq 8), NA) :: dl3 c
def dl5 (c : Dev nD) : List (GSem nD τ sig × ℕ) := (bar (nxt c), 1) :: dl4 c
def dl6 (c : Dev nD) : List (GSem nD τ sig × ℕ) := (bar (prv c), 1) :: dl5 c

def lvs : SemLoc sig → ℕ
  | .reg _ => 1
  | .dma q => if q.val < 8 then 0 else if q.val < 10 then 2 else 3

def L (g : GSem nD τ sig) : Finset Unit := if g.1.2 = .tc then {()} else ∅
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device may wait on a cell below all it owes. -/
theorem may_wait (c : Dev nD) (s : SemLoc sig) (l : List (GSem nD τ sig × ℕ)) (h : ∀ a ∈ l, a.1.1.2 = .tc ∧ lvs s < lvs a.1.2) :
    (levAts L lv : sProp 𝕄) ⊢ MayWait (c : Thread nD τ) s () (debt l) :=
  MayOwe.of_cut (L := L) (lev := lv) (lvs s) (fun p hp => by rw [Finset.mem_singleton.mp hp, L_tc]; exact Finset.mem_singleton_self _)
    (fun g u hg => by
      obtain ⟨a, ha, rfl⟩ := debt_pos hg
      unfold L; rw [if_pos (h a ha).1]; exact Finset.mem_singleton_self _)
    (fun p hp => by rw [Finset.mem_singleton.mp hp]; exact le_refl _)
    (fun g u hg => by
      obtain ⟨a, ha, rfl⟩ := debt_pos hg
      exact (h a ha).2)

theorem low1 (c : Dev nD) (n : ℕ) (hn : n < 3) : ∀ a ∈ dl1 c, a.1.1.2 = .tc ∧ n < lvs a.1.2 := by
  intro a ha
  rw [dl1, List.mem_singleton] at ha
  subst ha
  exact ⟨rfl, show n < 3 from hn⟩
theorem low2 (c : Dev nD) (n : ℕ) (hn : n < 3) : ∀ a ∈ dl2 c, a.1.1.2 = .tc ∧ n < lvs a.1.2 := by
  intro a ha
  rcases List.mem_cons.mp ha with rfl | ha
  · exact ⟨rfl, show n < 3 from hn⟩
  · exact low1 c n hn a ha
theorem low4 (c : Dev nD) (n : ℕ) (hn : n < 2) : ∀ a ∈ dl4 c, a.1.1.2 = .tc ∧ n < lvs a.1.2 := by
  intro a ha
  rcases List.mem_cons.mp ha with rfl | ha
  · exact ⟨rfl, show n < 2 from hn⟩
  rcases List.mem_cons.mp ha with rfl | ha
  · exact ⟨rfl, show n < 2 from hn⟩
  · exact low2 c n (by omega) a ha
theorem low6 (c : Dev nD) : ∀ a ∈ dl6 c, a.1.1.2 = .tc ∧ 0 < lvs a.1.2 := by
  intro a ha
  rcases List.mem_cons.mp ha with rfl | ha
  · exact ⟨rfl, show 0 < 1 by decide⟩
  rcases List.mem_cons.mp ha with rfl | ha
  · exact ⟨rfl, show 0 < 1 by decide⟩
  · exact low4 c 0 (by decide) a ha

/-! ## The pipeline's data -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

/-- Every cell's invariant and that it is at its first round. -/
def recs (K : Dev nD × Fin 9 → ℕ) : sProp 𝕄 :=
  iprop((bigSep Finset.univ fun ck : Dev nD × Fin 9 => cellInv ER (sched (blkOf m ρ)) (K ck) (kcell ck))
    ∗ bigSep Finset.univ fun ck : Dev nD × Fin 9 => reached ER (kcell ck) 0)
instance recs_persistent (K : Dev nD × Fin 9 → ℕ) : BI.Persistent (recs m ρ K) := by unfold recs; infer_instance

theorem inv_elim (K : Dev nD × Fin 9 → ℕ) (ck : Dev nD × Fin 9) :
    (bigSep Finset.univ fun ck : Dev nD × Fin 9 => (cellInv ER (sched (blkOf m ρ)) (K ck) (kcell ck) : sProp 𝕄)) ⊢ cellInv ER (sched (blkOf m ρ)) (K ck) (kcell ck) :=
  bigSep_elim (Finset.mem_univ ck)
omit [FloatOps F] in
theorem reached_elim (ck : Dev nD × Fin 9) :
    (bigSep Finset.univ fun ck : Dev nD × Fin 9 => (reached ER (kcell ck) 0 : sProp 𝕄)) ⊢ reached ER (kcell ck) 0 :=
  bigSep_elim (Finset.mem_univ ck)
theorem inv_of (K : Dev nD × Fin 9 → ℕ) (c : Dev nD) (k : Fin 9) (s : SemLoc sig) (h : csem k = s) :
    recs m ρ K ⊢ cellInv ER (sched (blkOf m ρ)) (K (c, k)) ((c : Thread nD τ), s) := by
  subst h
  unfold recs
  iintro ⟨#HI, -⟩
  iapply (inv_elim m ρ K (c, k))
  iexact HI
theorem reached_of (K : Dev nD × Fin 9 → ℕ) (c : Dev nD) (k : Fin 9) (s : SemLoc sig) (h : csem k = s) :
    recs m ρ K ⊢ reached ER ((c : Thread nD τ), s) 0 := by
  subst h
  unfold recs
  iintro ⟨-, #HR⟩
  iapply (reached_elim (F := F) (c, k))
  iexact HR

/-- A device's positions at its nine cells. -/
def posns (c : Dev nD) : sProp 𝕄 :=
  iprop(atPos ER (bar c) 0 ∅ 0
    ∗ atPos ER (dc c (dq 4)) 0 ∅ 0 ∗ atPos ER (dc c (dq 5)) 0 ∅ 0 ∗ atPos ER (dc c (dq 6)) 0 ∅ 0 ∗ atPos ER (dc c (dq 7)) 0 ∅ 0
    ∗ atPos ER (dc c (dq 8)) 0 ∅ 0 ∗ atPos ER (dc c (dq 9)) 0 ∅ 0 ∗ atPos ER (dc c (dq 10)) 0 ∅ 0 ∗ atPos ER (dc c (dq 11)) 0 ∅ 0)

/-- The duties device `c` pays. -/
def dues (c : Dev nD) : sProp 𝕄 :=
  iprop(dutyTok ER (bar (prv c)) 0 true ∗ dutyTok ER (bar (nxt c)) 0 false
    ∗ dutyTok ER (dc c (dq 4)) 0 false ∗ dutyTok ER (dc c (dq 5)) 0 false ∗ dutyTok ER (dc c (dq 6)) 0 false ∗ dutyTok ER (dc c (dq 7)) 0 false
    ∗ dutyTok ER (dc (nxt c) (dq 8)) 0 false ∗ dutyTok ER (dc (prv c) (dq 9)) 0 false
    ∗ dutyTok ER (dc (nxt c) (dq 10)) 0 false ∗ dutyTok ER (dc (prv c) (dq 11)) 0 false)

def ghost (K : Dev nD × Fin 9 → ℕ) (c : Dev nD) : sProp 𝕄 := iprop(recs m ρ K ∗ posns c ∗ dues c)

/-- The credits a device's waits draw on. -/
def credits (c : Dev nD) : sProp 𝕄 :=
  iprop(cred (tallyAt (bar c) () 2) ∗ cred (tallyAt (dc c (dq 8)) () NA) ∗ cred (tallyAt (dc c (dq 9)) () NA)
    ∗ cred (tallyAt (dc c (dq 10)) () NB) ∗ cred (tallyAt (dc c (dq 11)) () NB))

/-- The five scratch buffers at any contents. -/
def scr (c : Dev nD) : sProp 𝕄 :=
  iprop((∃ f, pt (F := F) c cc0_scratch0 f) ∗ (∃ f, pt (F := F) c cc0_scratch1 f) ∗ (∃ f, pt (F := F) c cc0_scratch2 f)
    ∗ (∃ f, pt (F := F) c cc0_scratch3 f) ∗ ∃ f, pt (F := F) c cc0_scratch4 f)

def start (c : Dev nD) : sProp 𝕄 := iprop((∃ K, ghost m ρ K c) ∗ credits c ∗ levAts L lv)

def zeros (c : Dev nD) : sProp 𝕄 :=
  iprop(semVal (bar c) 0
    ∗ semVal (dc c (dq 4)) 0 ∗ semVal (dc c (dq 5)) 0 ∗ semVal (dc c (dq 6)) 0 ∗ semVal (dc c (dq 7)) 0
    ∗ semVal (dc c (dq 8)) 0 ∗ semVal (dc c (dq 9)) 0 ∗ semVal (dc c (dq 10)) 0 ∗ semVal (dc c (dq 11)) 0)

def Φ₀ (c : Dev nD) : sProp 𝕄 := iprop(start m ρ c ∗ scr (F := F) c)
def Φ₁ (c : Dev nD) : sProp 𝕄 := iprop(scr (F := F) c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => rs m ρ c
    | ⟨2, _⟩ => ws m ρ c
    | ⟨3, _⟩ => out4 m ρ c
  Φ t := match t with
    | ⟨0, _⟩ => Φ₀ m ρ c
    | ⟨_ + 1, _⟩ => Φ₁ c
  q _ := fullShare
  owed t := match t with
    | ⟨0, _⟩ => debt (dl6 c)
    | ⟨_ + 1, _⟩ => 0

end Cert.Moe
-- ==== Proof.Steps.lean ====
/-
# The communication steps

Each signal, transfer and semaphore wait of the program as one step on what device `c` holds: the four transfers, the
waits for their completions, the two barrier signals and the wait for the neighbours' signals.
-/
module

public import proofs.«01_k».proof.Proof.Sched

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- What device `c` owes, whatever it has waited for so far. -/
def owing (c : Dev nD) (l : List (GSem nD τ sig × ℕ)) : sProp 𝕄 := iprop(∃ W, owes (c : Thread nD τ) (debt l) W)

/-- The program from here on, run on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps
variable (K : Dev nD × Fin 9 → ℕ) (c : Dev nD)

/-- The first transfer to the right: slot 0 into the right neighbour's slot 1. -/
theorem send1 (n : Dev nD) (hn : n = nxt c) {hsc : (m1 : Memref sig (Dev.tc n : Thread nD τ).2.kind .vmem S448x1024 .bf16).view.ref.isScScratch = false}
    {hsrc : (m0 : Memref sig .tc .vmem S448x1024 .bf16).view.WordExact} {hdst : (m1 : Memref sig .tc .vmem S448x1024 .bf16).view.WordExact}
    {hsem : DmaTarget.Typed .vmem (.dma (dq 8)) (.remote (Dev.tc n : Thread nD τ) (m1 : Memref sig .tc .vmem S448x1024 .bf16) (.dma (dq 4)) hsc)}
    {α : Type} {Q : α → sProp 𝕄} {k : PUnit → Prog (TpuEff nD τ sig (Elt F) Λ₀ .tc) α} :
    iprop(recs m ρ K ∗ cPts c (rows 0 0 448) fullShare.left (CC (blkOf m ρ) c) ∗ (∃ f, cPts (F := F) (nxt c) (rows 1 0 448) fullShare f)
        ∗ owing (F := F) c (dl4 c) ∗ dutyTok ER (dc c (dq 4)) 0 false ∗ dutyTok ER (dc (nxt c) (dq 8)) 0 false)
      ⊢ iprop(((cred (tallyAt (dc c (dq 4)) () NA) ∗ owing (F := F) c (dl3 c)) -∗ run c (k ⟨⟩) Q)
          -∗ run c (.op (.enqueueDma m0 (.remote (Dev.tc n : Thread nD τ) m1 (.dma (dq 4)) hsc) (.dma (dq 8)) hsrc hdst hsem) k) Q) := by
  subst hn
  unfold owing
  iintro ⟨#HK, Hs, ⟨%fd, Hd⟩, ⟨%W, HO⟩, Ht1, Ht2⟩ Hk
  ihave Hi1 := (inv_of m ρ K c 1 (.dma (dq 4)) rfl) $$ HK
  ihave Hi2 := (inv_of m ρ K (nxt c) 5 (.dma (dq 8)) rfl) $$ HK
  ihave Hr1 := (reached_of m ρ K c 1 (.dma (dq 4)) rfl) $$ HK
  ihave Hr2 := (reached_of m ρ K (nxt c) 5 (.dma (dq 8)) rfl) $$ HK
  have key := Rounds.wp_send_pointsTo 𝒱₀ ER (sched (blkOf m ρ)) (c : Thread nD τ) none (defs := defs₀) (c' := (nxt c : Thread nD τ)) (src := m0) (dst := m1)
    (hsc := hsc) (sS := .dma (dq 4)) (sem := .dma (dq 8)) (hsrc := hsrc) (hdst := hdst) (hsem := hsem) (κ₁ := K (c, 1)) (κ₂ := K (nxt c, 5)) (q := fullShare.left)
    (r₁ := 0) (r₂ := 0) (d₁ := false) (d₂ := false) (fs := CC (blkOf m ρ) c) (fd := fd) (k := k) (Q := Q) (Es := Set.univ) (Γ := .empty)
    (by rw [duties_dma]; exact Finset.mem_singleton_self _) (by rw [duties_dma]; exact Finset.mem_singleton_self _)
    () () NA rfl (amount_dma _ c (dq 4) false) (amount_dma _ (nxt c) (dq 8) false) (debt (dl3 c)) rfl (W := W)
    (by rw [payload_dma, set_m0]; exact BI.Entails.refl _)
    (by
      rw [payload_dma, pointsTo_congr (land1 (blkOf m ρ) c fd), set_m1]; exact BI.Entails.refl _)
  iapply key $$ [Hi1 Hi2 Hs Hd HO Ht1 Hr1 Ht2 Hr2]
  · isplitl [Hi1]; · iexact Hi1
    isplitl [Hi2]; · iexact Hi2
    isplitl [Hs]; · rw [set_m0]; unfold cPts; iexact Hs
    isplitl [Hd]; · rw [set_m1]; unfold cPts; iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- The first transfer to the left: slot 0 into the left neighbour's slot 2. -/
theorem send2 (n : Dev nD) (hn : n = prv c) {hsc : (m2 : Memref sig (Dev.tc n : Thread nD τ).2.kind .vmem S448x1024 .bf16).view.ref.isScScratch = false}
    {hsrc : (m0 : Memref sig .tc .vmem S448x1024 .bf16).view.WordExact} {hdst : (m2 : Memref sig .tc .vmem S448x1024 .bf16).view.WordExact}
    {hsem : DmaTarget.Typed .vmem (.dma (dq 9)) (.remote (Dev.tc n : Thread nD τ) (m2 : Memref sig .tc .vmem S448x1024 .bf16) (.dma (dq 5)) hsc)}
    {α : Type} {Q : α → sProp 𝕄} {k : PUnit → Prog (TpuEff nD τ sig (Elt F) Λ₀ .tc) α} :
    iprop(recs m ρ K ∗ cPts c (rows 0 0 448) fullShare.right (CC (blkOf m ρ) c) ∗ (∃ f, cPts (F := F) (prv c) (rows 2 0 448) fullShare f)
        ∗ owing (F := F) c (dl3 c) ∗ dutyTok ER (dc c (dq 5)) 0 false ∗ dutyTok ER (dc (prv c) (dq 9)) 0 false)
      ⊢ iprop(((cred (tallyAt (dc c (dq 5)) () NA) ∗ owing (F := F) c (dl2 c)) -∗ run c (k ⟨⟩) Q)
          -∗ run c (.op (.enqueueDma m0 (.remote (Dev.tc n : Thread nD τ) m2 (.dma (dq 5)) hsc) (.dma (dq 9)) hsrc hdst hsem) k) Q) := by
  subst hn
  unfold owing
  iintro ⟨#HK, Hs, ⟨%fd, Hd⟩, ⟨%W, HO⟩, Ht1, Ht2⟩ Hk
  ihave Hi1 := (inv_of m ρ K c 2 (.dma (dq 5)) rfl) $$ HK
  ihave Hi2 := (inv_of m ρ K (prv c) 6 (.dma (dq 9)) rfl) $$ HK
  ihave Hr1 := (reached_of m ρ K c 2 (.dma (dq 5)) rfl) $$ HK
  ihave Hr2 := (reached_of m ρ K (prv c) 6 (.dma (dq 9)) rfl) $$ HK
  have key := Rounds.wp_send_pointsTo 𝒱₀ ER (sched (blkOf m ρ)) (c : Thread nD τ) none (defs := defs₀) (c' := (prv c : Thread nD τ)) (src := m0) (dst := m2)
    (hsc := hsc) (sS := .dma (dq 5)) (sem := .dma (dq 9)) (hsrc := hsrc) (hdst := hdst) (hsem := hsem) (κ₁ := K (c, 2)) (κ₂ := K (prv c, 6)) (q := fullShare.right)
    (r₁ := 0) (r₂ := 0) (d₁ := false) (d₂ := false) (fs := CC (blkOf m ρ) c) (fd := fd) (k := k) (Q := Q) (Es := Set.univ) (Γ := .empty)
    (by rw [duties_dma]; exact Finset.mem_singleton_self _) (by rw [duties_dma]; exact Finset.mem_singleton_self _)
    () () NA rfl (amount_dma _ c (dq 5) false) (amount_dma _ (prv c) (dq 9) false) (debt (dl2 c)) rfl (W := W)
    (by rw [payload_dma, set_m0]; exact BI.Entails.refl _)
    (by
      rw [payload_dma, pointsTo_congr (land2 (blkOf m ρ) c fd), set_m2]; exact BI.Entails.refl _)
  iapply key $$ [Hi1 Hi2 Hs Hd HO Ht1 Hr1 Ht2 Hr2]
  · isplitl [Hi1]; · iexact Hi1
    isplitl [Hi2]; · iexact Hi2
    isplitl [Hs]; · rw [set_m0]; unfold cPts; iexact Hs
    isplitl [Hd]; · rw [set_m2]; unfold cPts; iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- The second to the right: the first half of slot 1 into the right neighbour's slot 3. -/
theorem send3 (n : Dev nD) (hn : n = nxt c) {hsc : (m3l : Memref sig (Dev.tc n : Thread nD τ).2.kind .vmem S224x1024 .bf16).view.ref.isScScratch = false}
    {hsrc : (m1l : Memref sig .tc .vmem S224x1024 .bf16).view.WordExact} {hdst : (m3l : Memref sig .tc .vmem S224x1024 .bf16).view.WordExact}
    {hsem : DmaTarget.Typed .vmem (.dma (dq 10)) (.remote (Dev.tc n : Thread nD τ) (m3l : Memref sig .tc .vmem S224x1024 .bf16) (.dma (dq 6)) hsc)}
    {α : Type} {Q : α → sProp 𝕄} {k : PUnit → Prog (TpuEff nD τ sig (Elt F) Λ₀ .tc) α} :
    iprop(recs m ρ K ∗ cPts c (rows 1 0 224) fullShare.right (CC (blkOf m ρ) c) ∗ (∃ f, cPts (F := F) (nxt c) (rows 3 0 224) fullShare f)
        ∗ owing (F := F) c (dl2 c) ∗ dutyTok ER (dc c (dq 6)) 0 false ∗ dutyTok ER (dc (nxt c) (dq 10)) 0 false)
      ⊢ iprop(((cred (tallyAt (dc c (dq 6)) () NB) ∗ owing (F := F) c (dl1 c)) -∗ run c (k ⟨⟩) Q)
          -∗ run c (.op (.enqueueDma m1l (.remote (Dev.tc n : Thread nD τ) m3l (.dma (dq 6)) hsc) (.dma (dq 10)) hsrc hdst hsem) k) Q) := by
  subst hn
  unfold owing
  iintro ⟨#HK, Hs, ⟨%fd, Hd⟩, ⟨%W, HO⟩, Ht1, Ht2⟩ Hk
  ihave Hi1 := (inv_of m ρ K c 3 (.dma (dq 6)) rfl) $$ HK
  ihave Hi2 := (inv_of m ρ K (nxt c) 7 (.dma (dq 10)) rfl) $$ HK
  ihave Hr1 := (reached_of m ρ K c 3 (.dma (dq 6)) rfl) $$ HK
  ihave Hr2 := (reached_of m ρ K (nxt c) 7 (.dma (dq 10)) rfl) $$ HK
  have key := Rounds.wp_send_pointsTo 𝒱₀ ER (sched (blkOf m ρ)) (c : Thread nD τ) none (defs := defs₀) (c' := (nxt c : Thread nD τ)) (src := m1l) (dst := m3l)
    (hsc := hsc) (sS := .dma (dq 6)) (sem := .dma (dq 10)) (hsrc := hsrc) (hdst := hdst) (hsem := hsem) (κ₁ := K (c, 3)) (κ₂ := K (nxt c, 7)) (q := fullShare.right)
    (r₁ := 0) (r₂ := 0) (d₁ := false) (d₂ := false) (fs := CC (blkOf m ρ) c) (fd := fd) (k := k) (Q := Q) (Es := Set.univ) (Γ := .empty)
    (by rw [duties_dma]; exact Finset.mem_singleton_self _) (by rw [duties_dma]; exact Finset.mem_singleton_self _)
    () () NB rfl (amount_dma _ c (dq 6) false) (amount_dma _ (nxt c) (dq 10) false) (debt (dl1 c)) rfl (W := W)
    (by rw [payload_dma, set_m1l]; exact BI.Entails.refl _)
    (by
      rw [payload_dma, pointsTo_congr (land3l (blkOf m ρ) c fd), set_m3l]; exact BI.Entails.refl _)
  iapply key $$ [Hi1 Hi2 Hs Hd HO Ht1 Hr1 Ht2 Hr2]
  · isplitl [Hi1]; · iexact Hi1
    isplitl [Hi2]; · iexact Hi2
    isplitl [Hs]; · rw [set_m1l]; unfold cPts; iexact Hs
    isplitl [Hd]; · rw [set_m3l]; unfold cPts; iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- The second to the left: the last half of slot 2 into the left neighbour's slot 3. -/
theorem send4 (n : Dev nD) (hn : n = prv c) {hsc : (m3h : Memref sig (Dev.tc n : Thread nD τ).2.kind .vmem S224x1024 .bf16).view.ref.isScScratch = false}
    {hsrc : (m2h : Memref sig .tc .vmem S224x1024 .bf16).view.WordExact} {hdst : (m3h : Memref sig .tc .vmem S224x1024 .bf16).view.WordExact}
    {hsem : DmaTarget.Typed .vmem (.dma (dq 11)) (.remote (Dev.tc n : Thread nD τ) (m3h : Memref sig .tc .vmem S224x1024 .bf16) (.dma (dq 7)) hsc)}
    {α : Type} {Q : α → sProp 𝕄} {k : PUnit → Prog (TpuEff nD τ sig (Elt F) Λ₀ .tc) α} :
    iprop(recs m ρ K ∗ cPts c (rows 2 224 448) fullShare.right (CC (blkOf m ρ) c) ∗ (∃ f, cPts (F := F) (prv c) (rows 3 224 448) fullShare f)
        ∗ owing (F := F) c (dl1 c) ∗ dutyTok ER (dc c (dq 7)) 0 false ∗ dutyTok ER (dc (prv c) (dq 11)) 0 false)
      ⊢ iprop(((cred (tallyAt (dc c (dq 7)) () NB) ∗ owing (F := F) c []) -∗ run c (k ⟨⟩) Q)
          -∗ run c (.op (.enqueueDma m2h (.remote (Dev.tc n : Thread nD τ) m3h (.dma (dq 7)) hsc) (.dma (dq 11)) hsrc hdst hsem) k) Q) := by
  subst hn
  unfold owing
  iintro ⟨#HK, Hs, ⟨%fd, Hd⟩, ⟨%W, HO⟩, Ht1, Ht2⟩ Hk
  ihave Hi1 := (inv_of m ρ K c 4 (.dma (dq 7)) rfl) $$ HK
  ihave Hi2 := (inv_of m ρ K (prv c) 8 (.dma (dq 11)) rfl) $$ HK
  ihave Hr1 := (reached_of m ρ K c 4 (.dma (dq 7)) rfl) $$ HK
  ihave Hr2 := (reached_of m ρ K (prv c) 8 (.dma (dq 11)) rfl) $$ HK
  have key := Rounds.wp_send_pointsTo 𝒱₀ ER (sched (blkOf m ρ)) (c : Thread nD τ) none (defs := defs₀) (c' := (prv c : Thread nD τ)) (src := m2h) (dst := m3h)
    (hsc := hsc) (sS := .dma (dq 7)) (sem := .dma (dq 11)) (hsrc := hsrc) (hdst := hdst) (hsem := hsem) (κ₁ := K (c, 4)) (κ₂ := K (prv c, 8)) (q := fullShare.right)
    (r₁ := 0) (r₂ := 0) (d₁ := false) (d₂ := false) (fs := CC (blkOf m ρ) c) (fd := fd) (k := k) (Q := Q) (Es := Set.univ) (Γ := .empty)
    (by rw [duties_dma]; exact Finset.mem_singleton_self _) (by rw [duties_dma]; exact Finset.mem_singleton_self _)
    () () NB rfl (amount_dma _ c (dq 7) false) (amount_dma _ (prv c) (dq 11) false) (debt []) rfl (W := W)
    (by rw [payload_dma, set_m2h]; exact BI.Entails.refl _)
    (by
      rw [payload_dma, pointsTo_congr (land3h (blkOf m ρ) c fd), set_m3h]; exact BI.Entails.refl _)
  iapply key $$ [Hi1 Hi2 Hs Hd HO Ht1 Hr1 Ht2 Hr2]
  · isplitl [Hi1]; · iexact Hi1
    isplitl [Hi2]; · iexact Hi2
    isplitl [Hs]; · rw [set_m2h]; unfold cPts; iexact Hs
    isplitl [Hd]; · rw [set_m3h]; unfold cPts; iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- A wait for a transfer's completion: it hands over what the completion does. -/
theorem wait_dma (q : DmaSem sig) (j : Fin 9) (hj : csem j = .dma q) (l : List (GSem nD τ sig × ℕ)) (hl : ∀ a ∈ l, a.1.1.2 = .tc ∧ lvs (.dma q) < lvs a.1.2)
    {s s' : Shape} {e e' : EltTy} {src : Memref sig .tc .vmem s' e'} {dst : Memref sig .tc .vmem s e} {hsrc : src.view.WordExact} {hdst : dst.view.WordExact} (hN : dst.view.dmaCredit = amt q.val)
    {α : Type} {Q : α → sProp 𝕄} {k : PUnit → Prog (TpuEff nD τ sig (Elt F) Λ₀ .tc) α} :
    iprop(recs m ρ K ∗ levAts L lv ∗ cred (tallyAt (dc c q) () (amt q.val)) ∗ owing (F := F) c l ∗ atPos ER (dc c q) 0 ∅ 0)
      ⊢ iprop(((owing (F := F) c l ∗ atPos ER (dc c q) (0 + 1) ∅ 0 ∗ pay (blkOf m ρ) c q.val) -∗ run c (k ⟨⟩) Q)
          -∗ run c (.op (.waitDma2 q src dst hsrc hdst) k) Q) := by
  unfold owing
  iintro ⟨#HK, #Hlev, Hc, ⟨%W, HO⟩, Hat⟩ Hk
  ihave Hi := (inv_of m ρ K c j (.dma q) hj) $$ HK
  iapply (Rounds.wp_wait_rest_token 𝒱₀ ER (sched (blkOf m ρ)) (c : Thread nD τ) none (κ := K (c, j))
      (wpE_waitDma2_eq 𝒱₀ (c : Thread nD τ) none Set.univ) (Set.mem_univ _) () (O := debt l) (W := W) (R := 0) (m := 0) (T := ∅)
      (by rw [Nat.zero_add, hN, expect_dma])) $$ [Hi Hc HO Hat]
  · isplitl [Hi]; · iexact Hi
    isplitl [Hc]; · rw [hN]; iexact Hc
    isplitl [HO]; · iexact HO
    isplitr; · iapply (may_wait c (.dma q) l hl); iexact Hlev
    iexact Hat
  iintro ⟨HO, Hat, -, Hpay⟩
  iapply Hk
  isplitl [HO]; · iexists _; iexact HO
  isplitl [Hat]; · iexact Hat
  iapply (Entails.of_eq (rest_dma (blkOf m ρ) c q)); iexact Hpay

/-- The signal to the left neighbour: its pieces of `c`'s buffer. -/
theorem sig_left (n : Dev nD) (hn : n = prv c) {α : Type} {Q : α → sProp 𝕄} {k : PUnit → Prog (TpuEff nD τ sig (Elt F) Λ₀ .tc) α} {f1 f2 : S4x448x1024.Idx → F .bf16} :
    iprop(recs m ρ K ∗ owing (F := F) c (dl6 c) ∗ dutyTok ER (bar (prv c)) 0 true ∗ cPts c (rows 1 0 448) fullShare f1 ∗ cPts c (rows 3 0 224) fullShare f2)
      ⊢ iprop((owing (F := F) c (dl5 c) -∗ run c (k ⟨⟩) Q) -∗ run c (.op (.semSignal (Dev.tc n : Thread nD τ) barS (1#32 : BitVec 32).toInt) k) Q) := by
  subst hn
  unfold owing
  iintro ⟨#HK, ⟨%W, HO⟩, Ht, H1, H2⟩ Hk
  ihave Hi := (inv_of m ρ K (prv c) 0 (.reg barS) rfl) $$ HK
  ihave Hr := (reached_of m ρ K (prv c) 0 (.reg barS) rfl) $$ HK
  iapply (Rounds.wp_signal 𝒱₀ ER (sched (blkOf m ρ)) (c : Thread nD τ) none (dst := (prv c : Thread nD τ)) (κ := K (prv c, 0))
      (d := true) (by rw [duties_bar]; exact Finset.mem_univ _) ((amount_bar (blkOf m ρ) (prv c) true).trans (by decide)) () (debt (dl5 c)) rfl)
    $$ [Hi HO Ht H1 H2 Hr]
  · isplitl [Hi]; · iexact Hi
    isplitl [HO]; · iexact HO
    isplitl [Ht]; · iexact Ht
    isplitl [H1 H2]
    · rw [payload_bar_true]; unfold barT; rw [nxt_prv]
      isplitl [H1]
      · iexists f1; iexact H1
      · iexists f2; iexact H2
    · iexact Hr
  iintro HO
  iapply Hk
  iexists W; iexact HO

/-- The signal to the right neighbour. -/
theorem sig_right (n : Dev nD) (hn : n = nxt c) {α : Type} {Q : α → sProp 𝕄} {k : PUnit → Prog (TpuEff nD τ sig (Elt F) Λ₀ .tc) α} {f1 f2 : S4x448x1024.Idx → F .bf16} :
    iprop(recs m ρ K ∗ owing (F := F) c (dl5 c) ∗ dutyTok ER (bar (nxt c)) 0 false ∗ cPts c (rows 2 0 448) fullShare f1 ∗ cPts c (rows 3 224 448) fullShare f2)
      ⊢ iprop((owing (F := F) c (dl4 c) -∗ run c (k ⟨⟩) Q) -∗ run c (.op (.semSignal (Dev.tc n : Thread nD τ) barS (1#32 : BitVec 32).toInt) k) Q) := by
  subst hn
  unfold owing
  iintro ⟨#HK, ⟨%W, HO⟩, Ht, H1, H2⟩ Hk
  ihave Hi := (inv_of m ρ K (nxt c) 0 (.reg barS) rfl) $$ HK
  ihave Hr := (reached_of m ρ K (nxt c) 0 (.reg barS) rfl) $$ HK
  iapply (Rounds.wp_signal 𝒱₀ ER (sched (blkOf m ρ)) (c : Thread nD τ) none (dst := (nxt c : Thread nD τ)) (κ := K (nxt c, 0))
      (d := false) (by rw [duties_bar]; exact Finset.mem_univ _) ((amount_bar (blkOf m ρ) (nxt c) false).trans (by decide)) () (debt (dl4 c)) rfl)
    $$ [Hi HO Ht H1 H2 Hr]
  · isplitl [Hi]; · iexact Hi
    isplitl [HO]; · iexact HO
    isplitl [Ht]; · iexact Ht
    isplitl [H1 H2]
    · rw [payload_bar_false]; unfold barF; rw [prv_nxt]
      isplitl [H1]
      · iexists f1; iexact H1
      · iexists f2; iexact H2
    · iexact Hr
  iintro HO
  iapply Hk
  iexists W; iexact HO

/-- The wait for the two neighbours' signals. -/
theorem wait_bar {α : Type} {Q : α → sProp 𝕄} {k : PUnit → Prog (TpuEff nD τ sig (Elt F) Λ₀ .tc) α} :
    iprop(recs m ρ K ∗ levAts L lv ∗ cred (tallyAt (bar c) () 2) ∗ owing (F := F) c (dl4 c) ∗ atPos ER (bar c) 0 ∅ 0)
      ⊢ iprop(((owing (F := F) c (dl4 c) ∗ atPos ER (bar c) (0 + 1) ∅ 0 ∗ barF (F := F) c ∗ barT (F := F) c) -∗ run c (k ⟨⟩) Q)
          -∗ run c (.op (.semWait barS (2#32 : BitVec 32).toInt) k) Q) := by
  unfold owing
  iintro ⟨#HK, #Hlev, Hc, ⟨%W, HO⟩, Hat⟩ Hk
  ihave Hi := (inv_of m ρ K c 0 (.reg barS) rfl) $$ HK
  iapply (Rounds.wp_wait_rest_token 𝒱₀ ER (sched (blkOf m ρ)) (c : Thread nD τ) none (κ := K (c, 0))
      (wpE_semWait_eq 𝒱₀ (c : Thread nD τ) none Set.univ) (Set.mem_univ _) () (O := debt (dl4 c)) (W := W) (R := 0) (m := 0) (T := ∅)
      (by rw [expect_bar]; rfl)) $$ [Hi Hc HO Hat]
  · isplitl [Hi]; · iexact Hi
    isplitl [Hc]; · iexact Hc
    isplitl [HO]; · iexact HO
    isplitr; · iapply (may_wait c (.reg barS) (dl4 c) (low4 c 1 (by decide))); iexact Hlev
    iexact Hat
  iintro ⟨HO, Hat, -, Hpay⟩
  iapply Hk
  isplitl [HO]; · iexists _; iexact HO
  isplitl [Hat]; · iexact Hat
  iapply (Entails.of_eq (rest_bar (blkOf m ρ) c)); iexact Hpay

end Steps

end Cert.Moe
-- ==== Proof.Mem.lean ====
/-
# The loads, stores and loops of the body as steps

What the body's block loads read and its block stores leave, the eight products filled in one after another, the loops
as single steps, and the pieces of the communication buffer split and joined.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Blocks of rows -/

theorem upd_rows {α : Type} {n m r : ℕ} (f : (⟨2, ![n, m]⟩ : Shape).Idx → α) (w : (⟨2, ![r, m]⟩ : Shape).Idx → α) (off : Fin 2 → ℕ)
    (k : ℕ) (h : off = ![k, 0]) (hs : (⟨2, ![n, m]⟩ : Shape).Slices off ⟨2, ![r, m]⟩) :
    updateSlice f w off hs
      = fun i => if h : k ≤ (i 0).val ∧ (i 0).val < k + r then w (ix2 (⟨(i 0).val - k, by omega⟩ : Fin r) (i 1 : Fin m)) else f i := by
  subst h
  funext i
  rw [updateSlice_apply]
  have h1 : (i 1).val < m := (i 1).isLt
  refine dite_congr (propext ⟨fun h => ?_, fun h a => ?_⟩) (fun hk => ?_) (fun _ => rfl)
  · exact h 0
  · match a with
    | ⟨0, _⟩ => exact h
    | ⟨1, _⟩ => show 0 ≤ (i 1).val ∧ (i 1).val < 0 + m; omega
  · refine congrArg w (funext fun a => ?_)
    match a with
    | ⟨0, _⟩ => exact Fin.ext rfl
    | ⟨1, _⟩ => exact Fin.ext (show (i 1).val - 0 = (i 1).val by omega)

theorem upd_whole {α : Type} {n m : ℕ} (f w : (⟨2, ![n, m]⟩ : Shape).Idx → α) (off : Fin 2 → ℕ) (h : off = ![0, 0])
    (hs : (⟨2, ![n, m]⟩ : Shape).Slices off ⟨2, ![n, m]⟩) : updateSlice f w off hs = w := by
  rw [upd_rows f w off 0 h hs]
  funext i
  have h0 : (i 0).val < n := (i 0).isLt
  refine (dif_pos ⟨Nat.zero_le _, by omega⟩).trans (congrArg w (funext fun a => ?_))
  match a with
  | ⟨0, _⟩ => exact Fin.ext (show (i 0).val - 0 = (i 0).val by omega)
  | ⟨1, _⟩ => exact Fin.ext rfl

/-- Expert `J`'s rows of the gathered rows, and its matrix. -/
def gRows (G : S448x1024.Idx → F .f32) (J : ℕ) (hJ : J < 8) : S56x1024.Idx → F .f32 :=
  fun x => G (ix2 (⟨56 * J + (x 0).val, row56 J hJ x⟩ : Fin 448) (x 1 : Fin 1024))
def wMat (W : S8x1024x1024.Idx → F .f32) (J : ℕ) (hJ : J < 8) : S1x1024x1024.Idx → F .f32 :=
  fun x => W (ix3 (⟨J, hJ⟩ : Fin 8) (x 1 : Fin 1024) (x 2 : Fin 1024))

omit [FloatOps F] in
theorem rdG (J : ℕ) (hJ : J < 8) (off : Fin 2 → ℕ) (inb) (h : off = ![56 * J, 0]) (G : (gM : Memref sig .tc .vmem S448x1024 .f32).view.ty.Contents (Elt F)) :
    (gM : Memref sig .tc .vmem S448x1024 .f32).view.readAt (Elt F) (Rect.unit (s := S448x1024) off S56x1024.size inb).toLoadRect G = gRows G J hJ := by
  subst h
  refine funext fun x => congrArg G (funext fun a => ?_)
  match a with
  | ⟨0, _⟩ => exact Fin.ext (show 56 * J + 1 * (x 0).val = 56 * J + (x 0).val by omega)
  | ⟨1, _⟩ => exact Fin.ext (show 0 + 1 * (x 1).val = (x 1).val by omega)

omit [FloatOps F] in
theorem rdW (J : ℕ) (hJ : J < 8) (off : Fin 3 → ℕ) (inb) (h : off = ![J, 0, 0]) (W : (wM : Memref sig .tc .vmem S8x1024x1024 .f32).view.ty.Contents (Elt F)) :
    (wM : Memref sig .tc .vmem S8x1024x1024 .f32).view.readAt (Elt F) (Rect.unit (s := S8x1024x1024) off S1x1024x1024.size inb).toLoadRect W = wMat W J hJ := by
  subst h
  refine funext fun x => congrArg W (funext fun a => ?_)
  have h0 : (x 0).val < 1 := (x 0).isLt
  match a with
  | ⟨0, _⟩ => exact Fin.ext (show J + 1 * (x 0).val = J by omega)
  | ⟨1, _⟩ => exact Fin.ext (show 0 + 1 * (x 1).val = (x 1).val by omega)
  | ⟨2, _⟩ => exact Fin.ext (show 0 + 1 * (x 2).val = (x 2).val by omega)

omit [FloatOps F] in
theorem rdY (inb) (f : (yM : Memref sig .tc .vmem S448x1024 .f32).view.ty.Contents (Elt F)) :
    (yM : Memref sig .tc .vmem S448x1024 .f32).view.readAt (Elt F) (Rect.unit (s := S448x1024) ![0, 0] S448x1024.size inb).toLoadRect f = f := by
  refine funext fun x => congrArg f (funext fun a => ?_)
  match a with
  | ⟨0, _⟩ => exact Fin.ext (show 0 + 1 * (x 0).val = (x 0).val by omega)
  | ⟨1, _⟩ => exact Fin.ext (show 0 + 1 * (x 1).val = (x 1).val by omega)

omit [FloatOps F] in
theorem wrY (inb) (f : (yM : Memref sig .tc .vmem S448x1024 .f32).view.ty.Contents (Elt F)) (w : S448x1024.Idx → F .f32) :
    ((yM : Memref sig .tc .vmem S448x1024 .f32).access (Rect.unit (s := S448x1024) ![0, 0] S448x1024.size inb)).write (Elt F) f w Finset.univ = w :=
  (View.write_whole_slice_unit cc0_scratch1 ![0, 0] S448x1024.size inb f w).trans (upd_whole f w _ rfl _)

omit [FloatOps F] in
theorem wrO (inb) (f : (oM : Memref sig .tc .vmem S2048x1024 .f32).view.ty.Contents (Elt F)) (w : S2048x1024.Idx → F .f32) :
    ((oM : Memref sig .tc .vmem S2048x1024 .f32).access (Rect.unit (s := S2048x1024) ![0, 0] S2048x1024.size inb)).write (Elt F) f w Finset.univ = w :=
  (View.write_whole_slice_unit cc0_stg3_0 ![0, 0] S2048x1024.size inb f w).trans (upd_whole f w _ rfl _)

/-- The rows buffer with the first `J` experts' products in place. -/
def filled (G : S448x1024.Idx → F .f32) (W : S8x1024x1024.Idx → F .f32) (J : ℕ) (f : S448x1024.Idx → F .f32) : Prop :=
  ∀ i : S448x1024.Idx, (i 0).val < 56 * J → f i = experts G W i

theorem filled_succ (G : S448x1024.Idx → F .f32) (W : S8x1024x1024.Idx → F .f32) (J : ℕ) (hJ : J < 8) (off : Fin 2 → ℕ) (inb) (h : off = ![56 * J, 0])
    (f : (yM : Memref sig .tc .vmem S448x1024 .f32).view.ty.Contents (Elt F)) (hf : filled G W J f) :
    filled G W (J + 1) (((yM : Memref sig .tc .vmem S448x1024 .f32).access (Rect.unit (s := S448x1024) off S56x1024.size inb)).write (Elt F) f
      (expert G W J hJ) Finset.univ) := by
  have e : ((yM : Memref sig .tc .vmem S448x1024 .f32).access (Rect.unit (s := S448x1024) off S56x1024.size inb)).write (Elt F) f (expert G W J hJ) Finset.univ
      = fun i : S448x1024.Idx => if h : 56 * J ≤ (i 0).val ∧ (i 0).val < 56 * J + 56 then expert G W J hJ (ix2 (⟨(i 0).val - 56 * J, by omega⟩ : Fin 56) (i 1 : Fin 1024)) else f i :=
    (View.write_whole_slice_unit cc0_scratch1 off S56x1024.size inb f (expert G W J hJ)).trans (upd_rows f _ off _ h _)
  intro i hi
  rw [e]
  dsimp only
  split
  · next hr =>
    have hd : (i 0).val / 56 = J := by omega
    unfold experts
    have key : ∀ (J' : ℕ) (hJ' : J' < 8) (a b : Fin 56), J = J' → a = b →
        expert G W J hJ (ix2 a (i 1 : Fin 1024)) = expert G W J' hJ' (ix2 b (i 1 : Fin 1024)) := by
      intro J' hJ' a b h1 h2; subst h1; subst h2; rfl
    exact key _ (div56 i) _ _ hd.symm (Fin.ext (show (i 0).val - 56 * J = (i 0).val % 56 by omega))
  · exact hf i (by omega)

theorem filled_all (G : S448x1024.Idx → F .f32) (W : S8x1024x1024.Idx → F .f32) (f : S448x1024.Idx → F .f32) (hf : filled G W 8 f) : f = experts G W := by
  funext i
  have h0 : (i 0).val < 448 := (i 0).isLt
  exact hf i (by omega)

/-! ## Steps -/

section Steps
variable (c : Dev nD)

/-- The rows buffer, `J` products done. -/
def yFill (G : S448x1024.Idx → F .f32) (W : S8x1024x1024.Idx → F .f32) (J : ℕ) : sProp 𝕄 :=
  iprop(∃ f, ⌜filled G W J f⌝ ∗ pt (F := F) c cc0_scratch1 f)

/-- The dead load of the place where a product goes, and its store. -/
theorem step_dead (G : S448x1024.Idx → F .f32) (W : S8x1024x1024.Idx → F .f32) (J : ℕ) {off : Fin 2 → ℕ} {inb : ∀ a, off a + S56x1024.size a ≤ S448x1024.size a} {hl}
    {α : Type} {Q : α → sProp 𝕄} {k : (S56x1024.Idx → F .f32) → Prog (TpuEff nD τ sig (Elt F) Λ₀ .tc) α} :
    yFill c G W J ⊢ iprop((∀ d, yFill c G W J -∗ run c (k d) Q)
      -∗ run c (.op (.load yM (Rect.unit (s := S448x1024) off S56x1024.size inb).toLoadRect hl) k) Q) := by
  unfold yFill
  iintro ⟨%f, %hf, H⟩ Hk
  iapply (wp_load 𝒱₀ (c : Thread nD τ) none Set.univ (m := yM) (Finset.subset_univ _)) $$ H; iintro H
  iapply Hk
  iexists f
  isplitr; · ipureintro; exact hf
  iexact H

theorem step_mul (G : S448x1024.Idx → F .f32) (W : S8x1024x1024.Idx → F .f32) (J : ℕ) (hJ : J < 8) {off : Fin 2 → ℕ} {inb : ∀ a, off a + S56x1024.size a ≤ S448x1024.size a}
    (h : off = ![56 * J, 0]) {w : S56x1024.Idx → F .f32} (hw : w = expert G W J hJ) {hx hm}
    {α : Type} {Q : α → sProp 𝕄} {k : PUnit → Prog (TpuEff nD τ sig (Elt F) Λ₀ .tc) α} :
    yFill c G W J ⊢ iprop((yFill c G W (J + 1) -∗ run c (k ⟨⟩) Q)
      -∗ run c (.op (.store yM (Rect.unit (s := S448x1024) off S56x1024.size inb) w Finset.univ hx hm) k) Q) := by
  subst hw
  unfold yFill
  iintro ⟨%f, %hf, H⟩ Hk
  iapply (wp_store 𝒱₀ (c : Thread nD τ) none Set.univ (m := yM) (r := Rect.unit (s := S448x1024) off S56x1024.size inb) (Mk := Finset.univ) (Finset.subset_univ _)) $$ H; iintro H
  iapply Hk
  iexists _
  isplitr
  rotate_left
  · iexact H
  · ipureintro; exact filled_succ G W J hJ off inb h f hf

/-- A counted loop from its invariant. -/
theorem loop_run {l : Scf.Loop 32} (hok : l.OK) (n : ℕ) (hn : l.trips = n) (body : Fin l.trips → Unit → Prog (TpuEff nD τ sig (Elt F) Λ₀ .tc) Unit)
    (I : ℕ → Unit → sProp 𝕄)
    (hbody : ∀ (k : Fin l.trips) (acc : Unit), I k acc ⊢ wp frame (wpE defs₀ 𝒱₀ (c : Thread nD τ) none) Set.univ (body k acc) (I (k.val + 1)))
    {α : Type} {Q : α → sProp 𝕄} {kk : Unit → Prog (TpuEff nD τ sig (Elt F) Λ₀ .tc) α} :
    I 0 ⟨⟩ ⊢ iprop((I n ⟨⟩ -∗ run c (kk ⟨⟩) Q) -∗ run c (Scf.Loop.for l hok ⟨⟩ body >>= kk) Q) := by
  subst hn
  iintro HI Hk
  iapply (Scf.wp_for_bind frame (wpE (defs₀ (F := F)) 𝒱₀ (c : Thread nD τ) none) Set.univ l.lb l.ub l.st hok ⟨⟩ body I hbody) $$ HI
  iintro %acc HI
  iapply Hk
  iexact HI

/-- The table of slots. -/
def tab (T : ℕ → ℕ) : sProp 𝕄 :=
  iprop(∃ f : Buf (Elt F) ((c : Thread nD τ).loc cc0_scratch3), ⌜∀ s : S1793.Idx, (s 0).val < 1792 → f s = BitVec.ofNat 32 (T (s 0).val)⌝ ∗ pt c cc0_scratch3 f)

/-- A scatter loop as one step. -/
theorem scat_run (T : ℕ → ℕ) (o : ℕ) (y : S448x1024.Idx → F .f32) (f0 : S2048x1024.Idx → F .f32)
    {l : Scf.Loop 32} {hok : l.OK} (hn : l.trips = 448) {body : Fin l.trips → Unit → Prog (TpuEff nD τ sig (Elt F) Λ₀ .tc) Unit}
    (hbody : ∀ (f : S1793.Idx → BitVec 32) (_ : ∀ s : S1793.Idx, (s 0).val < 1792 → f s = BitVec.ofNat 32 (T (s 0).val)) (k : Fin l.trips) (acc : Unit),
      invS (F := F) c T f o y f0 k acc ⊢ wp frame (wpE defs₀ 𝒱₀ (c : Thread nD τ) none) Set.univ (body k acc) (invS (F := F) c T f o y f0 (k.val + 1)))
    {α : Type} {Q : α → sProp 𝕄} {kk : Unit → Prog (TpuEff nD τ sig (Elt F) Λ₀ .tc) α} :
    iprop(tab (F := F) c T ∗ pt (F := F) c cc0_scratch1 y ∗ pt (F := F) c cc0_stg3_0 f0)
      ⊢ iprop(((tab (F := F) c T ∗ pt (F := F) c cc0_scratch1 y ∗ pt (F := F) c cc0_stg3_0 (scat T o y f0 448)) -∗ run c (kk ⟨⟩) Q)
        -∗ run c (Scf.Loop.for l hok ⟨⟩ body >>= kk) Q) := by
  unfold tab
  iintro ⟨⟨%f, %hf, HS⟩, HY, HO⟩ Hk
  iapply (loop_run c hok 448 hn body (invS (F := F) c T f o y f0) (hbody f hf)) $$ [HS HY HO]
  · unfold invS
    isplitl [HS]; · iexact HS
    isplitl [HY]; · iexact HY
    iexact HO
  unfold invS
  iintro ⟨HS, HY, HO⟩
  iapply Hk
  isplitl [HS]
  · iexists f
    isplitr; · ipureintro; exact hf
    iexact HS
  isplitl [HY]; · iexact HY
  iexact HO

/-! ## Pieces of the communication buffer -/

omit [FloatOps F] in
theorem c_halves (S : Finset S4x448x1024.Idx) (f : S4x448x1024.Idx → F .bf16) :
    cPts c S fullShare f ⊣⊢ iprop(cPts (F := F) c S fullShare.left f ∗ cPts c S fullShare.right f) :=
  pointsTo_share (PosShare.mem_left_op_right fullShare)
omit [FloatOps F] in
theorem c_union {S T : Finset S4x448x1024.Idx} (h : Disjoint S T) (q : PosShare TreeShare) (f : S4x448x1024.Idx → F .bf16) :
    cPts c (S ∪ T) q f ⊣⊢ iprop(cPts (F := F) c S q f ∗ cPts c T q f) := pointsTo_union h
omit [FloatOps F] in
theorem c_split (k a b d : ℕ) (h : a ≤ b) (h' : b ≤ d) (q : PosShare TreeShare) (f : S4x448x1024.Idx → F .bf16) :
    cPts c (rows k a d) q f ⊣⊢ iprop(cPts (F := F) c (rows k a b) q f ∗ cPts c (rows k b d) q f) := by
  rw [rows_split k a b d h h']; exact c_union c (rows_disj (.inr (.inl (le_refl _)))) q f
omit [FloatOps F] in
theorem c_all (f : S4x448x1024.Idx → F .bf16) :
    pt (F := F) c cc0_scratch2 f ⊣⊢ iprop(cPts (F := F) c (rows 0 0 448) fullShare f ∗ cPts c (rows 1 0 448) fullShare f ∗ cPts c (rows 2 0 448) fullShare f
      ∗ cPts c (rows 3 0 224) fullShare f ∗ cPts c (rows 3 224 448) fullShare f) := by
  have d {k a b k' a' b' : ℕ} (h : k ≠ k') : Disjoint (rows k a b) (rows k' a' b') := rows_disj (.inl h)
  have e : pt (F := F) c cc0_scratch2 f ⊣⊢ cPts (F := F) c (rows 0 0 448 ∪ (rows 1 0 448 ∪ (rows 2 0 448 ∪ (rows 3 0 224 ∪ rows 3 224 448)))) fullShare f := by
    rw [← rows_all]; exact ⟨.refl, .refl⟩
  refine e.trans ((c_union c ?_ _ f).trans ?_)
  · simp only [Finset.disjoint_union_right]; exact ⟨d (by decide), d (by decide), d (by decide), d (by decide)⟩
  refine sep_congr_right ((c_union c ?_ _ f).trans ?_)
  · simp only [Finset.disjoint_union_right]; exact ⟨d (by decide), d (by decide), d (by decide)⟩
  refine sep_congr_right ((c_union c ?_ _ f).trans ?_)
  · simp only [Finset.disjoint_union_right]; exact ⟨d (by decide), d (by decide)⟩
  exact sep_congr_right (c_union c (rows_disj (.inr (.inl (le_refl _)))) _ f)

/-- A load of slot `k` of the finished buffer, holding any share of the slot. -/
theorem load_slot (B : Dev nD → S1x448x1024.Idx → F .bf16) (k : ℕ) (q : PosShare TreeShare) {inb : ∀ a, (![k, 0, 0] : Fin 3 → ℕ) a + S1x448x1024.size a ≤ S4x448x1024.size a} {hl}
    {α : Type} {Q : α → sProp 𝕄} {kk : (S1x448x1024.Idx → F .bf16) → Prog (TpuEff nD τ sig (Elt F) Λ₀ .tc) α} :
    cPts c (rows k 0 448) q (CC B c) ⊢ iprop((cPts c (rows k 0 448) q (CC B c) -∗ run c (kk (B (org c k))) Q)
      -∗ run c (.op (.load cM (Rect.unit (s := S4x448x1024) ![k, 0, 0] S1x448x1024.size inb).toLoadRect hl) kk) Q) := by
  have hS : ((cM : Memref sig .tc .vmem S4x448x1024 .bf16).access (Rect.unit (s := S4x448x1024) ![k, 0, 0] S1x448x1024.size inb)).set ⊆ rows k 0 448 :=
    (((View.set_slice_whole cc0_scratch2 _).trans (unit_rows k 0 448 inb)).trans (by rw [Nat.zero_add])).subset
  have hS' : (cM : Memref sig .tc .vmem S4x448x1024 .bf16).view.setOn (Rect.unit (s := S4x448x1024) ![k, 0, 0] S1x448x1024.size inb).toLoadRect.set ⊆ rows k 0 448 := by
    rwa [View.set_slice] at hS
  unfold cPts
  iintro H Hk
  iapply (wp_load 𝒱₀ (c : Thread nD τ) none Set.univ (m := cM) (r := (Rect.unit (s := S4x448x1024) ![k, 0, 0] S1x448x1024.size inb).toLoadRect) hS') $$ H; iintro H
  rw [read_slot B c k inb]
  iapply Hk
  iexact H

/-- The dead load of slot 0 and the store of the block that the device sends. -/
theorem slot0_set {inb : ∀ a, (![0, 0, 0] : Fin 3 → ℕ) a + S1x448x1024.size a ≤ S4x448x1024.size a} :
    ((cM : Memref sig .tc .vmem S4x448x1024 .bf16).access (Rect.unit (s := S4x448x1024) ![0, 0, 0] S1x448x1024.size inb)).set = rows 0 0 448 :=
  (View.set_slice_whole cc0_scratch2 _).trans (unit_rows 0 0 448 inb)

theorem dead_slot0 (f : S4x448x1024.Idx → F .bf16) {inb : ∀ a, (![0, 0, 0] : Fin 3 → ℕ) a + S1x448x1024.size a ≤ S4x448x1024.size a} {hl}
    {α : Type} {Q : α → sProp 𝕄} {kk : (S1x448x1024.Idx → F .bf16) → Prog (TpuEff nD τ sig (Elt F) Λ₀ .tc) α} :
    cPts c (rows 0 0 448) fullShare f ⊢ iprop((∀ d, cPts c (rows 0 0 448) fullShare f -∗ run c (kk d) Q)
      -∗ run c (.op (.load cM (Rect.unit (s := S4x448x1024) ![0, 0, 0] S1x448x1024.size inb).toLoadRect hl) kk) Q) := by
  have hS := (slot0_set (inb := inb)).subset
  have hS' : (cM : Memref sig .tc .vmem S4x448x1024 .bf16).view.setOn (Rect.unit (s := S4x448x1024) ![0, 0, 0] S1x448x1024.size inb).toLoadRect.set ⊆ rows 0 0 448 := by
    rwa [View.set_slice] at hS
  unfold cPts
  iintro H Hk
  iapply (wp_load 𝒱₀ (c : Thread nD τ) none Set.univ (m := cM) (r := (Rect.unit (s := S4x448x1024) ![0, 0, 0] S1x448x1024.size inb).toLoadRect) hS') $$ H; iintro H
  iapply Hk
  iexact H

theorem store_slot0 (B : Dev nD → S1x448x1024.Idx → F .bf16) (f : S4x448x1024.Idx → F .bf16) {inb : ∀ a, (![0, 0, 0] : Fin 3 → ℕ) a + S1x448x1024.size a ≤ S4x448x1024.size a}
    {w : S1x448x1024.Idx → F .bf16} (hw : w = B c) {hx hm}
    {α : Type} {Q : α → sProp 𝕄} {kk : PUnit → Prog (TpuEff nD τ sig (Elt F) Λ₀ .tc) α} :
    cPts c (rows 0 0 448) fullShare f ⊢ iprop((cPts c (rows 0 0 448) fullShare (CC B c) -∗ run c (kk ⟨⟩) Q)
      -∗ run c (.op (.store cM (Rect.unit (s := S4x448x1024) ![0, 0, 0] S1x448x1024.size inb) w Finset.univ hx hm) kk) Q) := by
  subst hw
  have hS : ((cM : Memref sig .tc .vmem S4x448x1024 .bf16).access (Rect.unit (s := S4x448x1024) ![0, 0, 0] S1x448x1024.size inb)).setOn Finset.univ ⊆ rows 0 0 448 :=
    (slot0_set (inb := inb)).subset
  have hw := write_slot0 B c inb f
  iintro H Hk
  unfold cPts
  iapply (wp_store 𝒱₀ (c : Thread nD τ) none Set.univ (m := cM) (r := Rect.unit (s := S4x448x1024) ![0, 0, 0] S1x448x1024.size inb) (Mk := Finset.univ) hS) $$ H; iintro H
  generalize ((cM : Memref sig .tc .vmem S4x448x1024 .bf16).access (Rect.unit (s := S4x448x1024) ![0, 0, 0] S1x448x1024.size inb)).write (Elt F) f (B c) Finset.univ = g at hw
  iapply Hk
  rw [pointsTo_congr hw]
  exact BI.Entails.refl _

end Steps

end Cert.Moe
-- ==== Proof.Parts1.lean ====
/-
# The body, part by part

Each part of the printed body, run on device `c` from what it holds there to what it holds after: the routing and the
gathered rows; the eight products; the device's own block on its way to both neighbours; and the four scatters, each
after the block it needs has landed.
-/
module

public import proofs.«01_k».proof.Proof.Mem

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 9 → ℕ) (c : Dev nD)

theorem run_ret {α : Type} {a : α} {Q : α → sProp 𝕄} : Q a ⊢ run c (.ret a : Prog (TpuEff nD τ sig (Elt F) Λ₀ .tc) α) Q := by
  unfold run
  rw [wp_ret]
  iintro H
  imodintro
  iexact H

/-- The buffers that no part after the first changes: tokens, routing, experts, gathered rows, counts. -/
def kept : sProp 𝕄 :=
  iprop(pt (F := F) c cc0_stg0_0 (xs m ρ c) ∗ pt (F := F) c cc0_stg1_0 (rs m ρ c) ∗ pt (F := F) c cc0_stg2_0 (ws m ρ c)
    ∗ pt (F := F) c cc0_scratch0 (gath (xs m ρ c) (tok (rs m ρ c)) c.val) ∗ (∃ f, pt (F := F) c cc0_scratch4 f))

abbrev GG : S448x1024.Idx → F .f32 := gath (xs m ρ c) (tok (rs m ρ c)) c.val

theorem part1_run (hR : ∀ i, (rs m ρ c i).toNat < 32) {Q} (fc : S4x448x1024.Idx → F .bf16) :
    iprop(recs m ρ K ∗ owing (F := F) c (dl6 c) ∗ dutyTok ER (bar (prv c)) 0 true ∗ dutyTok ER (bar (nxt c)) 0 false
        ∗ pt (F := F) c cc0_scratch2 fc ∗ pt (F := F) c cc0_stg0_0 (xs m ρ c) ∗ pt (F := F) c cc0_stg1_0 (rs m ρ c) ∗ pt (F := F) c cc0_stg2_0 (ws m ρ c)
        ∗ (∃ f, pt (F := F) c cc0_scratch0 f) ∗ (∃ f, pt (F := F) c cc0_scratch3 f) ∗ (∃ f, pt (F := F) c cc0_scratch4 f))
      ⊢ iprop((∀ v2 v4 v6, (owing (F := F) c (dl4 c) ∗ cPts c (rows 0 0 448) fullShare fc ∗ kept m ρ c ∗ tab (F := F) c (tok (rs m ρ c)))
            -∗ Q ⟨c, v2, v4, v6, SemArray.scalar (sig.barrier 0 rfl), gRows (GG m ρ c) 0 (by decide), wMat (ws m ρ c) 0 (by decide)⟩)
          -∗ run c (k0_part1 xM (wh _) rM (wh _) wM (wh _) oM (wh _) gM (wh _) yM (wh _) cM (wh _) sM (wh _) nM (wh _) cc0_scratch5 cc0_scratch6) Q) := by
  rw [k0_part1_eq_skeleton]
  unfold k0_part1_skel
  simp only [Prog.lift, Prog.bind_op, Prog.bind_ret, Prog.pure_eq_ret, Prog.bind_assoc, semSignalWord, wp_deviceId]
  iintro ⟨#HK, HO, Ht1, Ht2, HC, HX, HR, HW, ⟨%g0, HG⟩, ⟨%f3, HS⟩, ⟨%f4, HN⟩⟩ Hk
  ihave HC' := (c_all c fc).1 $$ HC
  icases HC' with ⟨H0, H1, H2, H3, H4⟩
  iapply (sig_left m ρ K c _ (dev1_eq c)) $$ [HO Ht1 H1 H3]
  · isplitr; · iexact HK
    isplitl [HO]; · iexact HO
    isplitl [Ht1]; · iexact Ht1
    isplitl [H1]; · iexact H1
    iexact H3
  iintro HO
  iapply (sig_right m ρ K c _ (dev2_eq c)) $$ [HO Ht2 H2 H4]
  · isplitr; · iexact HK
    isplitl [HO]; · iexact HO
    isplitl [Ht2]; · iexact Ht2
    isplitl [H2]; · iexact H2
    iexact H4
  iintro HO
  iapply (loop_run c _ 1793 t1_trips _ (inv1 (F := F) c) (step1 c)) $$ [HS]
  · unfold inv1
    iexists f3
    isplitr; · ipureintro; exact fun s hs => absurd hs (Nat.not_lt_zero _)
    iexact HS
  unfold inv1
  iintro ⟨%f3', %h3, HS⟩
  iapply (loop_run c _ 32 t2_trips _ (inv2 (F := F) c) (step2 c)) $$ [HN]
  · unfold inv2
    iexists f4
    isplitr; · ipureintro; exact fun s hs => absurd hs (Nat.not_lt_zero _)
    iexact HN
  unfold inv2
  iintro ⟨%f4', %h4, HN⟩
  iapply (loop_run c _ 2048 t3_trips _ (inv3 (F := F) c (rs m ρ c)) (step3 c (rs m ρ c) hR)) $$ [HR HS HN]
  · unfold inv3
    isplitl [HR]; · iexact HR
    isplitl [HS]
    · iexists f3'
      isplitr
      · ipureintro; exact fun s hs => h3 s (hs.trans (by decide))
      · iexact HS
    · have e : f4' = fun i : S32.Idx => BitVec.ofNat 32 (cntN (eOf (rs m ρ c)) 0 (i 0).val) := by
        funext i; exact h4 i (i 0).isLt
      rw [← e]; iexact HN
  unfold inv3
  iintro ⟨HR, ⟨%f, %hf, HS⟩, HN⟩
  iapply (loop_run c _ 448 t4_trips _ (inv4 (F := F) c (xs m ρ c) (tok (rs m ρ c)) f) (step4 c (xs m ρ c) (tok (rs m ρ c)) (tok_le _) f hf)) $$ [HX HS HG]
  · unfold inv4
    isplitl [HX]; · iexact HX
    isplitl [HS]; · iexact HS
    iexists g0
    isplitr; · ipureintro; exact fun s hs => absurd hs (Nat.not_lt_zero _)
    iexact HG
  unfold inv4
  iintro ⟨HX, HS, ⟨%g, %hg, HG⟩⟩
  obtain rfl : g = GG m ρ c := by funext i; exact hg i (i 0).isLt
  iapply (wp_load 𝒱₀ (c : Thread nD τ) none Set.univ (m := gM) (Finset.subset_univ _)) $$ HG; iintro HG
  rw [rdG 0 (by decide) _ _ rfl]
  iapply (wp_load 𝒱₀ (c : Thread nD τ) none Set.univ (m := wM) (Finset.subset_univ _)) $$ HW; iintro HW
  rw [rdW 0 (by decide) _ _ rfl]
  iapply (run_ret c)
  iapply Hk
  isplitl [HO]; · iexact HO
  isplitl [H0]; · iexact H0
  unfold kept tab
  isplitl [HX HR HW HG HN]
  · isplitl [HX]; · iexact HX
    isplitl [HR]; · iexact HR
    isplitl [HW]; · iexact HW
    isplitl [HG]; · iexact HG
    iexists _; iexact HN
  iexists f
  isplitr; · ipureintro; exact hf
  iexact HS

theorem part2_run (G : S448x1024.Idx → F .f32) (W : S8x1024x1024.Idx → F .f32) {Q} :
    iprop(pt (F := F) c cc0_scratch0 G ∗ pt (F := F) c cc0_stg2_0 W ∗ yFill c G W 0)
      ⊢ iprop(((pt (F := F) c cc0_scratch0 G ∗ pt (F := F) c cc0_stg2_0 W ∗ yFill c G W 4) -∗ Q (gRows G 4 (by decide)))
          -∗ run c (k0_part2 xM (wh _) rM (wh _) wM (wh _) oM (wh _) gM (wh _) yM (wh _) cM (wh _) sM (wh _) nM (wh _) cc0_scratch5 cc0_scratch6 (gRows G 0 (by decide)) (wMat W 0 (by decide))) Q) := by
  rw [k0_part2_eq_skeleton]
  unfold k0_part2_skel
  simp only [Prog.lift, Prog.bind_op, Prog.bind_ret, Prog.pure_eq_ret]
  iintro ⟨HG, HW, HY⟩ Hk
  iapply (step_dead c G W 0) $$ HY; iintro %d0 HY
  iapply (step_mul c G W 0 (by decide) rfl (w := _) rfl) $$ HY; iintro HY
  iapply (wp_load 𝒱₀ (c : Thread nD τ) none Set.univ (m := gM) (Finset.subset_univ _)) $$ HG; iintro HG
  rw [rdG 1 (by decide) _ _ rfl]
  iapply (wp_load 𝒱₀ (c : Thread nD τ) none Set.univ (m := wM) (Finset.subset_univ _)) $$ HW; iintro HW
  rw [rdW 1 (by decide) _ _ rfl]
  iapply (step_dead c G W 1) $$ HY; iintro %d1 HY
  iapply (step_mul c G W 1 (by decide) rfl (w := _) rfl) $$ HY; iintro HY
  iapply (wp_load 𝒱₀ (c : Thread nD τ) none Set.univ (m := gM) (Finset.subset_univ _)) $$ HG; iintro HG
  rw [rdG 2 (by decide) _ _ rfl]
  iapply (wp_load 𝒱₀ (c : Thread nD τ) none Set.univ (m := wM) (Finset.subset_univ _)) $$ HW; iintro HW
  rw [rdW 2 (by decide) _ _ rfl]
  iapply (step_dead c G W 2) $$ HY; iintro %d2 HY
  iapply (step_mul c G W 2 (by decide) rfl (w := _) rfl) $$ HY; iintro HY
  iapply (wp_load 𝒱₀ (c : Thread nD τ) none Set.univ (m := gM) (Finset.subset_univ _)) $$ HG; iintro HG
  rw [rdG 3 (by decide) _ _ rfl]
  iapply (wp_load 𝒱₀ (c : Thread nD τ) none Set.univ (m := wM) (Finset.subset_univ _)) $$ HW; iintro HW
  rw [rdW 3 (by decide) _ _ rfl]
  iapply (step_dead c G W 3) $$ HY; iintro %d3 HY
  iapply (step_mul c G W 3 (by decide) rfl (w := _) rfl) $$ HY; iintro HY
  iapply (wp_load 𝒱₀ (c : Thread nD τ) none Set.univ (m := gM) (Finset.subset_univ _)) $$ HG; iintro HG
  rw [rdG 4 (by decide) _ _ rfl]
  iapply (run_ret c)
  iapply Hk
  isplitl [HG]; · iexact HG
  isplitl [HW] <;> iassumption

theorem part3_run (G : S448x1024.Idx → F .f32) (W : S8x1024x1024.Idx → F .f32) {Q} :
    iprop(pt (F := F) c cc0_scratch0 G ∗ pt (F := F) c cc0_stg2_0 W ∗ yFill c G W 4)
      ⊢ iprop(((pt (F := F) c cc0_scratch0 G ∗ pt (F := F) c cc0_stg2_0 W ∗ yFill c G W 7) -∗ Q (expert G W 7 (by decide)))
          -∗ run c (k0_part3 xM (wh _) rM (wh _) wM (wh _) oM (wh _) gM (wh _) yM (wh _) cM (wh _) sM (wh _) nM (wh _) cc0_scratch5 cc0_scratch6 (gRows G 4 (by decide))) Q) := by
  rw [k0_part3_eq_skeleton]
  unfold k0_part3_skel
  simp only [Prog.lift, Prog.bind_op, Prog.bind_ret, Prog.pure_eq_ret]
  iintro ⟨HG, HW, HY⟩ Hk
  iapply (wp_load 𝒱₀ (c : Thread nD τ) none Set.univ (m := wM) (Finset.subset_univ _)) $$ HW; iintro HW
  rw [rdW 4 (by decide) _ _ rfl]
  iapply (step_dead c G W 4) $$ HY; iintro %d4 HY
  iapply (step_mul c G W 4 (by decide) rfl (w := _) rfl) $$ HY; iintro HY
  iapply (wp_load 𝒱₀ (c : Thread nD τ) none Set.univ (m := gM) (Finset.subset_univ _)) $$ HG; iintro HG
  rw [rdG 5 (by decide) _ _ rfl]
  iapply (wp_load 𝒱₀ (c : Thread nD τ) none Set.univ (m := wM) (Finset.subset_univ _)) $$ HW; iintro HW
  rw [rdW 5 (by decide) _ _ rfl]
  iapply (step_dead c G W 5) $$ HY; iintro %d5 HY
  iapply (step_mul c G W 5 (by decide) rfl (w := _) rfl) $$ HY; iintro HY
  iapply (wp_load 𝒱₀ (c : Thread nD τ) none Set.univ (m := gM) (Finset.subset_univ _)) $$ HG; iintro HG
  rw [rdG 6 (by decide) _ _ rfl]
  iapply (wp_load 𝒱₀ (c : Thread nD τ) none Set.univ (m := wM) (Finset.subset_univ _)) $$ HW; iintro HW
  rw [rdW 6 (by decide) _ _ rfl]
  iapply (step_dead c G W 6) $$ HY; iintro %d6 HY
  iapply (step_mul c G W 6 (by decide) rfl (w := _) rfl) $$ HY; iintro HY
  iapply (wp_load 𝒱₀ (c : Thread nD τ) none Set.univ (m := gM) (Finset.subset_univ _)) $$ HG; iintro HG
  rw [rdG 7 (by decide) _ _ rfl]
  iapply (wp_load 𝒱₀ (c : Thread nD τ) none Set.univ (m := wM) (Finset.subset_univ _)) $$ HW; iintro HW
  rw [rdW 7 (by decide) _ _ rfl]
  iapply (step_dead c G W 7) $$ HY; iintro %d7 HY
  iapply (run_ret c)
  have e : k0_pay9 (gRows G 7 (by decide)) (wMat W 7 (by decide)) = expert G W 7 (by decide) := rfl
  rw [e]
  iapply Hk
  isplitl [HG]; · iexact HG
  isplitl [HW] <;> iassumption

/-- What the two later transfers need, in hand since the barrier. -/
def later : sProp 𝕄 :=
  iprop((∃ f, cPts (F := F) (nxt c) (rows 3 0 224) fullShare f) ∗ (∃ f, cPts (F := F) (prv c) (rows 3 224 448) fullShare f))

theorem part4_run (v4 v6 : BitVec 32) (fc : S4x448x1024.Idx → F .bf16) {Q} :
    iprop(recs m ρ K ∗ levAts L lv ∗ yFill c (GG m ρ c) (ws m ρ c) 7 ∗ cPts c (rows 0 0 448) fullShare fc ∗ owing (F := F) c (dl4 c)
        ∗ cred (tallyAt (bar c) () 2) ∗ atPos ER (bar c) 0 ∅ 0
        ∗ dutyTok ER (dc c (dq 4)) 0 false ∗ dutyTok ER (dc (nxt c) (dq 8)) 0 false ∗ dutyTok ER (dc c (dq 5)) 0 false ∗ dutyTok ER (dc (prv c) (dq 9)) 0 false)
      ⊢ iprop(((pt (F := F) c cc0_scratch1 (yOwn m ρ c) ∗ owing (F := F) c (dl2 c) ∗ atPos ER (bar c) (0 + 1) ∅ 0
            ∗ cred (tallyAt (dc c (dq 4)) () NA) ∗ cred (tallyAt (dc c (dq 5)) () NA) ∗ later (F := F) c) -∗ Q (k0_pay11 (F := F)))
          -∗ run c (k0_part4 xM (wh _) rM (wh _) wM (wh _) oM (wh _) gM (wh _) yM (wh _) cM (wh _) sM (wh _) nM (wh _) cc0_scratch5 cc0_scratch6 c v4 v6 (SemArray.scalar (sig.barrier 0 rfl)) (expert (GG m ρ c) (ws m ρ c) 7 (by decide))) Q) := by
  rw [k0_part4_eq_skeleton]
  unfold k0_part4_skel
  simp only [Prog.lift, Prog.bind_op, Prog.bind_ret, Prog.pure_eq_ret, semWaitWord]
  iintro ⟨#HK, #Hlev, HY, HC, HO, Hcb, Hat, Ht4, Ht8, Ht5, Ht9⟩ Hk
  iapply (step_mul c (GG m ρ c) (ws m ρ c) 7 (Nat.lt_succ_self 7) rfl (w := _) rfl) $$ HY; unfold yFill; iintro ⟨%f, %hf, HY⟩
  obtain rfl : f = yOwn m ρ c := filled_all _ _ f hf
  iapply (wp_load 𝒱₀ (c : Thread nD τ) none Set.univ (m := yM) (Finset.subset_univ _)) $$ HY; iintro HY
  rw [rdY]
  iapply (dead_slot0 c fc) $$ HC; iintro %d HC
  iapply (store_slot0 c (blkOf m ρ) fc rfl) $$ HC; iintro HC
  iapply (wait_bar m ρ K c) $$ [Hcb HO Hat]
  · isplitr; · iexact HK
    isplitr; · iexact Hlev
    isplitl [Hcb]; · iexact Hcb
    isplitl [HO]; · iexact HO
    iexact Hat
  unfold barF barT
  iintro ⟨HO, Hat, ⟨HF1, HF2⟩, ⟨HT1, HT2⟩⟩
  ihave HC' := (c_halves c _ _).1 $$ HC
  icases HC' with ⟨HCl, HCr⟩
  iapply (send1 m ρ K c _ (dev3_eq c)) $$ [HCl HT1 HO Ht4 Ht8]
  · isplitr; · iexact HK
    isplitl [HCl]; · iexact HCl
    isplitl [HT1]; · iexact HT1
    isplitl [HO]; · iexact HO
    isplitl [Ht4]; · iexact Ht4
    iexact Ht8
  iintro ⟨Hc4, HO⟩
  iapply (send2 m ρ K c _ (dev4_eq c)) $$ [HCr HF1 HO Ht5 Ht9]
  · isplitr; · iexact HK
    isplitl [HCr]; · iexact HCr
    isplitl [HF1]; · iexact HF1
    isplitl [HO]; · iexact HO
    isplitl [Ht5]; · iexact Ht5
    iexact Ht9
  iintro ⟨Hc5, HO⟩
  iapply (run_ret c)
  iapply Hk
  isplitl [HY]; · iexact HY
  isplitl [HO]; · iexact HO
  isplitl [Hat]; · iexact Hat
  isplitl [Hc4]; · iexact Hc4
  isplitl [Hc5]; · iexact Hc5
  unfold later
  isplitl [HT2] <;> iassumption

end Parts

end Cert.Moe
-- ==== Proof.Parts2.lean ====
/-
# The body, its four scatters, and the body as a whole
-/
module

public import proofs.«01_k».proof.Proof.Parts1

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

section Parts
variable (K : Dev nD × Fin 9 → ℕ) (c : Dev nD)

/-- The slots of device `c`'s finished buffer. -/
abbrev slot (k a b : ℕ) (q : PosShare TreeShare) : sProp 𝕄 := cPts c (rows k a b) q (CC (blkOf m ρ) c)

theorem pay_4 : pay (blkOf m ρ) c (dq 4).val = slot m ρ c 0 0 448 fullShare.left := rfl

theorem pay_5 : pay (blkOf m ρ) c (dq 5).val = slot m ρ c 0 0 448 fullShare.right := rfl

theorem pay_6 : pay (blkOf m ρ) c (dq 6).val = slot m ρ c 1 0 224 fullShare.right := rfl

theorem pay_7 : pay (blkOf m ρ) c (dq 7).val = slot m ρ c 2 224 448 fullShare.right := rfl

theorem pay_8 : pay (blkOf m ρ) c (dq 8).val = slot m ρ c 1 0 448 fullShare := rfl

theorem pay_9 : pay (blkOf m ρ) c (dq 9).val = slot m ρ c 2 0 448 fullShare := rfl

theorem pay_10 : pay (blkOf m ρ) c (dq 10).val = slot m ρ c 3 0 224 fullShare := rfl

theorem pay_11 : pay (blkOf m ρ) c (dq 11).val = slot m ρ c 3 224 448 fullShare := rfl

theorem part5_run (v2 v4 v6 : BitVec 32) {Q} :
    iprop(recs m ρ K ∗ levAts L lv ∗ tab (F := F) c (tok (rs m ρ c)) ∗ pt (F := F) c cc0_scratch1 (yOwn m ρ c) ∗ (∃ f, pt (F := F) c cc0_stg3_0 f) ∗ owing (F := F) c (dl2 c) ∗ cred (tallyAt (dc c (dq 8)) () NA) ∗ atPos ER (dc c (dq 8)) 0 ∅ 0
        ∗ (∃ f, cPts (F := F) (nxt c) (rows 3 0 224) fullShare f) ∗ dutyTok ER (dc c (dq 6)) 0 false ∗ dutyTok ER (dc (nxt c) (dq 10)) 0 false)
      ⊢ iprop(((tab (F := F) c (tok (rs m ρ c)) ∗ pt (F := F) c cc0_scratch1 (yOwn m ρ c) ∗ pt (F := F) c cc0_stg3_0 (out1 m ρ c) ∗ owing (F := F) c (dl1 c) ∗ atPos ER (dc c (dq 8)) (0 + 1) ∅ 0 ∗ cred (tallyAt (dc c (dq 6)) () NB)
            ∗ slot m ρ c 1 0 448 fullShare.left ∗ slot m ρ c 1 224 448 fullShare.right) -∗ Q ⟨⟩)
          -∗ run c (k0_part5 xM (wh _) rM (wh _) wM (wh _) oM (wh _) gM (wh _) yM (wh _) cM (wh _) sM (wh _) nM (wh _) cc0_scratch5 cc0_scratch6 c v2 v4 v6 (k0_pay11 (F := F))) Q) := by
  rw [k0_part5_eq_skeleton]
  unfold k0_part5_skel
  simp only [Prog.lift, Prog.bind_op, Prog.bind_ret, Prog.pure_eq_ret, Prog.bind_assoc]
  iintro ⟨#HK, #Hlev, HT, HY, ⟨%fo, HOut⟩, HO, Hc8, Ha8, Hd, Ht6, Ht10⟩ Hk
  iapply (wp_load 𝒱₀ (c : Thread nD τ) none Set.univ (m := oM) (Finset.subset_univ _)) $$ HOut; iintro HOut
  iapply (wp_store 𝒱₀ (c : Thread nD τ) none Set.univ (m := oM) (r := Rect.unit (s := S2048x1024) ![0, 0] S2048x1024.size inb_S2048x1024_S2048x1024_0_0) (Mk := Finset.univ) (Finset.subset_univ _)) $$ HOut; iintro HOut
  rw [wrO]
  iapply (scat_run c (tok (rs m ρ c)) c.val (yOwn m ρ c) (k0_pay11 (F := F)) t5_trips (fun f hf k acc => step5 c (tok (rs m ρ c)) (tok_le _) f hf (yOwn m ρ c) (k0_pay11 (F := F)) _ _ _ _ k acc)) $$ [HT HY HOut]
  · isplitl [HT]; · iexact HT
    isplitl [HY]; · iexact HY
    iexact HOut
  iintro ⟨HT, HY, HOut⟩
  iapply (wait_dma m ρ K c (dq 8) 5 rfl (dl2 c) (low2 c 2 (by decide)) (hN := by rfl)) $$ [Hc8 HO Ha8]
  · isplitr; · iexact HK
    isplitr; · iexact Hlev
    isplitl [Hc8]; · iexact Hc8
    isplitl [HO]; · iexact HO
    iexact Ha8
  iintro ⟨HO, Ha8, Hs⟩
  ihave Hs := (Entails.of_eq (pay_8 m ρ c)) $$ Hs
  ihave Hs' := (c_halves c (rows 1 0 448) (CC (blkOf m ρ) c)).1 $$ Hs
  icases Hs' with ⟨Hl, Hr⟩
  ihave Hr' := (c_split c 1 0 224 448 (by decide) (by decide) fullShare.right (CC (blkOf m ρ) c)).1 $$ Hr
  icases Hr' with ⟨Hrl, Hrh⟩
  iapply (send3 m ρ K c _ (dev5_eq c)) $$ [Hrl Hd HO Ht6 Ht10]
  · isplitr; · iexact HK
    isplitl [Hrl]; · iexact Hrl
    isplitl [Hd]; · iexact Hd
    isplitl [HO]; · iexact HO
    isplitl [Ht6]; · iexact Ht6
    iexact Ht10
  iintro ⟨Hc6, HO⟩
  iapply (run_ret c)
  iapply Hk
  isplitl [HT]; · iexact HT
  isplitl [HY]; · iexact HY
  isplitl [HOut]; · iexact HOut
  isplitl [HO]; · iexact HO
  isplitl [Ha8]; · iexact Ha8
  isplitl [Hc6]; · iexact Hc6
  isplitl [Hl]; · iexact Hl
  iexact Hrh

theorem part6_run (v4 : BitVec 32) {Q} :
    iprop(recs m ρ K ∗ levAts L lv ∗ tab (F := F) c (tok (rs m ρ c)) ∗ pt (F := F) c cc0_scratch1 (yOwn m ρ c) ∗ pt (F := F) c cc0_stg3_0 (out1 m ρ c) ∗ owing (F := F) c (dl1 c) ∗ cred (tallyAt (dc c (dq 9)) () NA) ∗ atPos ER (dc c (dq 9)) 0 ∅ 0
        ∗ (∃ f, cPts (F := F) (prv c) (rows 3 224 448) fullShare f) ∗ dutyTok ER (dc c (dq 7)) 0 false ∗ dutyTok ER (dc (prv c) (dq 11)) 0 false ∗ slot m ρ c 1 0 448 fullShare.left)
      ⊢ iprop((∀ v149, (tab (F := F) c (tok (rs m ρ c)) ∗ pt (F := F) c cc0_scratch1 (k0_pay12 (blkOf m ρ (prv c))) ∗ pt (F := F) c cc0_stg3_0 (out2 m ρ c) ∗ owing (F := F) c [] ∗ atPos ER (dc c (dq 9)) (0 + 1) ∅ 0 ∗ cred (tallyAt (dc c (dq 7)) () NB)
            ∗ slot m ρ c 1 0 448 fullShare.left ∗ slot m ρ c 2 0 448 fullShare.left ∗ slot m ρ c 2 0 224 fullShare.right) -∗ Q ⟨k0_pay13 (blkOf m ρ (nxt c)), v149⟩)
          -∗ run c (k0_part6 xM (wh _) rM (wh _) wM (wh _) oM (wh _) gM (wh _) yM (wh _) cM (wh _) sM (wh _) nM (wh _) cc0_scratch5 cc0_scratch6 c v4) Q) := by
  rw [k0_part6_eq_skeleton]
  unfold k0_part6_skel
  simp only [Prog.lift, Prog.bind_op, Prog.bind_ret, Prog.pure_eq_ret, Prog.bind_assoc]
  iintro ⟨#HK, #Hlev, HT, HY, HOut, HO, Hc9, Ha9, Hd, Ht7, Ht11, H1l⟩ Hk
  iapply (wait_dma m ρ K c (dq 9) 6 rfl (dl1 c) (low1 c 2 (by decide)) (hN := by rfl)) $$ [Hc9 HO Ha9]
  · isplitr; · iexact HK
    isplitr; · iexact Hlev
    isplitl [Hc9]; · iexact Hc9
    isplitl [HO]; · iexact HO
    iexact Ha9
  iintro ⟨HO, Ha9, Hs⟩
  ihave Hs := (Entails.of_eq (pay_9 m ρ c)) $$ Hs
  ihave Hs' := (c_halves c (rows 2 0 448) (CC (blkOf m ρ) c)).1 $$ Hs
  icases Hs' with ⟨Hl, Hr⟩
  ihave Hr' := (c_split c 2 0 224 448 (by decide) (by decide) fullShare.right (CC (blkOf m ρ) c)).1 $$ Hr
  icases Hr' with ⟨Hrl, Hrh⟩
  iapply (send4 m ρ K c _ (dev6_eq c)) $$ [Hrh Hd HO Ht7 Ht11]
  · isplitr; · iexact HK
    isplitl [Hrh]; · iexact Hrh
    isplitl [Hd]; · iexact Hd
    isplitl [HO]; · iexact HO
    isplitl [Ht7]; · iexact Ht7
    iexact Ht11
  iintro ⟨Hc7, HO⟩
  iapply (load_slot c (blkOf m ρ) 1 fullShare.left) $$ H1l; iintro H1l
  iapply (wp_load 𝒱₀ (c : Thread nD τ) none Set.univ (m := yM) (Finset.subset_univ _)) $$ HY; iintro HY
  iapply (wp_store 𝒱₀ (c : Thread nD τ) none Set.univ (m := yM) (r := Rect.unit (s := S448x1024) ![0, 0] S448x1024.size inb_S448x1024_S448x1024_0_0) (Mk := Finset.univ) (Finset.subset_univ _)) $$ HY; iintro HY
  rw [wrY]
  iapply (scat_run c (tok (rs m ρ c)) ((c.val + 3) % 4) (k0_pay12 (blkOf m ρ (prv c))) (out1 m ρ c) t6_trips (fun f hf k acc => step6 c (tok (rs m ρ c)) (tok_le _) f hf (k0_pay12 (blkOf m ρ (prv c))) (out1 m ρ c) _ k acc)) $$ [HT HY HOut]
  · isplitl [HT]; · iexact HT
    isplitl [HY]; · iexact HY
    iexact HOut
  iintro ⟨HT, HY, HOut⟩
  iapply (load_slot c (blkOf m ρ) 2 fullShare.left) $$ Hl; iintro Hl
  rw [show org c 2 = nxt c from rfl]
  iapply (wp_load 𝒱₀ (c : Thread nD τ) none Set.univ (m := yM) (Finset.subset_univ _)) $$ HY; iintro HY
  iapply (run_ret c)
  iapply Hk
  isplitl [HT]; · iexact HT
  isplitl [HY]; · iexact HY
  isplitl [HOut]; · iexact HOut
  isplitl [HO]; · iexact HO
  isplitl [Ha9]; · iexact Ha9
  isplitl [Hc7]; · iexact Hc7
  isplitl [H1l]; · iexact H1l
  isplitl [Hl]; · iexact Hl
  iexact Hrl

theorem part7_run (v4 v6 : BitVec 32) (v149 : Vec F S448x1024 .f32) {Q} :
    iprop(recs m ρ K ∗ levAts L lv ∗ tab (F := F) c (tok (rs m ρ c)) ∗ pt (F := F) c cc0_scratch1 (k0_pay12 (blkOf m ρ (prv c))) ∗ pt (F := F) c cc0_stg3_0 (out2 m ρ c) ∗ owing (F := F) c [] ∗ cred (tallyAt (dc c (dq 10)) () NB) ∗ cred (tallyAt (dc c (dq 11)) () NB) ∗ atPos ER (dc c (dq 10)) 0 ∅ 0 ∗ atPos ER (dc c (dq 11)) 0 ∅ 0)
      ⊢ iprop(((tab (F := F) c (tok (rs m ρ c)) ∗ pt (F := F) c cc0_scratch1 (k0_pay14 (k0_pay13 (blkOf m ρ (nxt c)))) ∗ pt (F := F) c cc0_stg3_0 (out3 m ρ c) ∗ owing (F := F) c [] ∗ atPos ER (dc c (dq 10)) (0 + 1) ∅ 0 ∗ atPos ER (dc c (dq 11)) (0 + 1) ∅ 0
            ∗ slot m ρ c 3 0 448 fullShare) -∗ Q (k0_pay15 (blkOf m ρ (prv (prv c)))))
          -∗ run c (k0_part7 xM (wh _) rM (wh _) wM (wh _) oM (wh _) gM (wh _) yM (wh _) cM (wh _) sM (wh _) nM (wh _) cc0_scratch5 cc0_scratch6 c v4 v6 (k0_pay13 (blkOf m ρ (nxt c))) v149) Q) := by
  rw [k0_part7_eq_skeleton]
  unfold k0_part7_skel
  simp only [Prog.lift, Prog.bind_op, Prog.bind_ret, Prog.pure_eq_ret, Prog.bind_assoc]
  iintro ⟨#HK, #Hlev, HT, HY, HOut, HO, Hc10, Hc11, Ha10, Ha11⟩ Hk
  iapply (wp_store 𝒱₀ (c : Thread nD τ) none Set.univ (m := yM) (r := Rect.unit (s := S448x1024) ![0, 0] S448x1024.size inb_S448x1024_S448x1024_0_0) (Mk := Finset.univ) (Finset.subset_univ _)) $$ HY; iintro HY
  rw [wrY]
  iapply (scat_run c (tok (rs m ρ c)) ((c.val + 1) % 4) (k0_pay14 (k0_pay13 (blkOf m ρ (nxt c)))) (out2 m ρ c) t7_trips (fun f hf k acc => step7 c (tok (rs m ρ c)) (tok_le _) f hf (k0_pay14 (k0_pay13 (blkOf m ρ (nxt c)))) (out2 m ρ c) _ _ _ _ k acc)) $$ [HT HY HOut]
  · isplitl [HT]; · iexact HT
    isplitl [HY]; · iexact HY
    iexact HOut
  iintro ⟨HT, HY, HOut⟩
  iapply (wait_dma m ρ K c (dq 10) 7 rfl [] (fun a ha => absurd ha List.not_mem_nil) (hN := by rfl)) $$ [Hc10 HO Ha10]
  · isplitr; · iexact HK
    isplitr; · iexact Hlev
    isplitl [Hc10]; · iexact Hc10
    isplitl [HO]; · iexact HO
    iexact Ha10
  iintro ⟨HO, Ha10, Hsl⟩
  ihave Hsl := (Entails.of_eq (pay_10 m ρ c)) $$ Hsl
  iapply (wait_dma m ρ K c (dq 11) 8 rfl [] (fun a ha => absurd ha List.not_mem_nil) (hN := by rfl)) $$ [Hc11 HO Ha11]
  · isplitr; · iexact HK
    isplitr; · iexact Hlev
    isplitl [Hc11]; · iexact Hc11
    isplitl [HO]; · iexact HO
    iexact Ha11
  iintro ⟨HO, Ha11, Hsh⟩
  ihave Hsh := (Entails.of_eq (pay_11 m ρ c)) $$ Hsh
  ihave Hs := (c_split c 3 0 224 448 (by decide) (by decide) fullShare (CC (blkOf m ρ) c)).2 $$ [Hsl Hsh]
  · isplitl [Hsl]; · iexact Hsl
    iexact Hsh
  iapply (load_slot c (blkOf m ρ) 3 fullShare) $$ Hs; iintro Hs
  rw [show org c 3 = prv (prv c) from rfl]
  iapply (wp_load 𝒱₀ (c : Thread nD τ) none Set.univ (m := yM) (Finset.subset_univ _)) $$ HY; iintro HY
  iapply (run_ret c)
  iapply Hk
  isplitl [HT]; · iexact HT
  isplitl [HY]; · iexact HY
  isplitl [HOut]; · iexact HOut
  isplitl [HO]; · iexact HO
  isplitl [Ha10]; · iexact Ha10
  isplitl [Ha11]; · iexact Ha11
  iexact Hs

theorem part8_run (v2 : BitVec 32) {Q} :
    iprop(recs m ρ K ∗ levAts L lv ∗ tab (F := F) c (tok (rs m ρ c)) ∗ pt (F := F) c cc0_scratch1 (k0_pay14 (k0_pay13 (blkOf m ρ (nxt c)))) ∗ pt (F := F) c cc0_stg3_0 (out3 m ρ c) ∗ owing (F := F) c [] ∗ cred (tallyAt (dc c (dq 4)) () NA) ∗ cred (tallyAt (dc c (dq 5)) () NA) ∗ atPos ER (dc c (dq 4)) 0 ∅ 0 ∗ atPos ER (dc c (dq 5)) 0 ∅ 0)
      ⊢ iprop(((tab (F := F) c (tok (rs m ρ c)) ∗ pt (F := F) c cc0_scratch1 (k0_pay15 (blkOf m ρ (prv (prv c)))) ∗ pt (F := F) c cc0_stg3_0 (out4 m ρ c) ∗ owing (F := F) c [] ∗ atPos ER (dc c (dq 4)) (0 + 1) ∅ 0 ∗ atPos ER (dc c (dq 5)) (0 + 1) ∅ 0
            ∗ slot m ρ c 0 0 448 fullShare) -∗ Q ⟨⟩)
          -∗ run c (k0_part8 xM (wh _) rM (wh _) wM (wh _) oM (wh _) gM (wh _) yM (wh _) cM (wh _) sM (wh _) nM (wh _) cc0_scratch5 cc0_scratch6 c v2 (k0_pay15 (blkOf m ρ (prv (prv c))))) Q) := by
  rw [k0_part8_eq_skeleton]
  unfold k0_part8_skel
  simp only [Prog.lift, Prog.bind_op, Prog.bind_ret, Prog.pure_eq_ret, Prog.bind_assoc]
  iintro ⟨#HK, #Hlev, HT, HY, HOut, HO, Hc4, Hc5, Ha4, Ha5⟩ Hk
  iapply (wp_store 𝒱₀ (c : Thread nD τ) none Set.univ (m := yM) (r := Rect.unit (s := S448x1024) ![0, 0] S448x1024.size inb_S448x1024_S448x1024_0_0) (Mk := Finset.univ) (Finset.subset_univ _)) $$ HY; iintro HY
  rw [wrY]
  iapply (scat_run c (tok (rs m ρ c)) ((c.val + 2) % 4) (k0_pay15 (blkOf m ρ (prv (prv c)))) (out3 m ρ c) t8_trips (fun f hf k acc => step8 c (tok (rs m ρ c)) (tok_le _) f hf (k0_pay15 (blkOf m ρ (prv (prv c)))) (out3 m ρ c) _ _ k acc)) $$ [HT HY HOut]
  · isplitl [HT]; · iexact HT
    isplitl [HY]; · iexact HY
    iexact HOut
  iintro ⟨HT, HY, HOut⟩
  iapply (wait_dma m ρ K c (dq 4) 1 rfl [] (fun a ha => absurd ha List.not_mem_nil) (hN := by rfl)) $$ [Hc4 HO Ha4]
  · isplitr; · iexact HK
    isplitr; · iexact Hlev
    isplitl [Hc4]; · iexact Hc4
    isplitl [HO]; · iexact HO
    iexact Ha4
  iintro ⟨HO, Ha4, Hsl⟩
  ihave Hsl := (Entails.of_eq (pay_4 m ρ c)) $$ Hsl
  iapply (wait_dma m ρ K c (dq 5) 2 rfl [] (fun a ha => absurd ha List.not_mem_nil) (hN := by rfl)) $$ [Hc5 HO Ha5]
  · isplitr; · iexact HK
    isplitr; · iexact Hlev
    isplitl [Hc5]; · iexact Hc5
    isplitl [HO]; · iexact HO
    iexact Ha5
  iintro ⟨HO, Ha5, Hsh⟩
  ihave Hsh := (Entails.of_eq (pay_5 m ρ c)) $$ Hsh
  ihave Hs := (c_halves c (rows 0 0 448) (CC (blkOf m ρ) c)).2 $$ [Hsl Hsh]
  · isplitl [Hsl]; · iexact Hsl
    iexact Hsh
  iapply (run_ret c)
  iapply Hk
  isplitl [HT]; · iexact HT
  isplitl [HY]; · iexact HY
  isplitl [HOut]; · iexact HOut
  isplitl [HO]; · iexact HO
  isplitl [Ha4]; · iexact Ha4
  isplitl [Ha5]; · iexact Ha5
  iexact Hs

theorem close_cell (j : Fin 9) (s : SemLoc sig) (hj : csem j = s) :
    iprop(recs m ρ K ∗ atPos ER ((c : Thread nD τ), s) (0 + 1) ∅ 0) ⊢ iprop(|={Set.univ}=> semVal ((c : Thread nD τ), s) 0) := by
  iintro ⟨#HK, Ha⟩
  ihave Hi := (inv_of m ρ K c j s hj) $$ HK
  iapply (Rounds.cell_close ER (sched (blkOf m ρ)) (Set.mem_univ (K (c, j))) (fun h => h) (R := 0 + 1) (duties_later (blkOf m ρ) ((c : Thread nD τ), s))) $$ [Ha]
  isplitl [Hi]; · iexact Hi
  iexact Ha

/-- What the body starts from. -/
def bodyPre : sProp 𝕄 :=
  iprop(ghost m ρ K c ∗ credits c ∗ levAts L lv ∗ scr (F := F) c ∗ owing (F := F) c (dl6 c)
    ∗ pt (F := F) c cc0_stg0_0 (xs m ρ c) ∗ pt (F := F) c cc0_stg1_0 (rs m ρ c) ∗ pt (F := F) c cc0_stg2_0 (ws m ρ c) ∗ (∃ f, pt (F := F) c cc0_stg3_0 f))

/-- What the body ends in. -/
def bodyEnd : sProp 𝕄 :=
  iprop(Φ₁ (F := F) c ∗ owing (F := F) c []
    ∗ pt (F := F) c cc0_stg0_0 (xs m ρ c) ∗ pt (F := F) c cc0_stg1_0 (rs m ρ c) ∗ pt (F := F) c cc0_stg2_0 (ws m ρ c) ∗ pt (F := F) c cc0_stg3_0 (out4 m ρ c))

theorem body_run (hR : ∀ i, (rs m ρ c i).toNat < 32) {Q} :
    bodyPre m ρ K c ⊢ iprop((bodyEnd m ρ c -∗ Q ⟨⟩) -∗ run c (cc0_body xM (wh _) rM (wh _) wM (wh _) oM (wh _) gM (wh _) yM (wh _) cM (wh _) sM (wh _) nM (wh _) cc0_scratch5 cc0_scratch6) Q) := by
  rw [cc0_body_eq_skeleton]
  unfold cc0_body_skel bodyPre ghost posns dues credits scr
  simp only [Prog.lift, Prog.bind_op, Prog.bind_ret, Prog.pure_eq_ret, run, wp_bind]
  iintro ⟨⟨#HK, ⟨Hab, Ha4, Ha5, Ha6, Ha7, Ha8, Ha9, Ha10, Ha11⟩, ⟨Htp, Htn, Ht4, Ht5, Ht6, Ht7, Ht8, Ht9, Ht10, Ht11⟩⟩, ⟨Hcb, Hc8, Hc9, Hc10, Hc11⟩, #Hlev,
    ⟨HG, ⟨%fy, HY⟩, ⟨%fc, HC⟩, HS, HN⟩, HO, HX, HR, HW, HOut⟩ Hk
  iapply (part1_run m ρ K c hR fc) $$ [HO Htp Htn HC HX HR HW HG HS HN]
  · isplitr; · iexact HK
    isplitl [HO]; · iexact HO
    isplitl [Htp]; · iexact Htp
    isplitl [Htn]; · iexact Htn
    isplitl [HC]; · iexact HC
    isplitl [HX]; · iexact HX
    isplitl [HR]; · iexact HR
    isplitl [HW]; · iexact HW
    isplitl [HG]; · iexact HG
    isplitl [HS]; · iexact HS
    iexact HN
  unfold kept
  iintro %v2 %v4 %v6 ⟨HO, H0, ⟨HX, HR, HW, HG, HN⟩, HT⟩
  iapply (part2_run c (GG m ρ c) (ws m ρ c)) $$ [HG HW HY]
  · isplitl [HG]; · iexact HG
    isplitl [HW]; · iexact HW
    unfold yFill
    iexists fy
    isplitr; · ipureintro; exact fun i hi => absurd hi (Nat.not_lt_zero _)
    iexact HY
  iintro ⟨HG, HW, HY⟩
  iapply (part3_run c (GG m ρ c) (ws m ρ c)) $$ [HG HW HY]
  · isplitl [HG]; · iexact HG
    isplitl [HW]; · iexact HW
    iexact HY
  iintro ⟨HG, HW, HY⟩
  iapply (part4_run m ρ K c v4 v6 fc) $$ [HY H0 HO Hcb Hab Ht4 Ht8 Ht5 Ht9]
  · isplitr; · iexact HK
    isplitr; · iexact Hlev
    isplitl [HY]; · iexact HY
    isplitl [H0]; · iexact H0
    isplitl [HO]; · iexact HO
    isplitl [Hcb]; · iexact Hcb
    isplitl [Hab]; · iexact Hab
    isplitl [Ht4]; · iexact Ht4
    isplitl [Ht8]; · iexact Ht8
    isplitl [Ht5]; · iexact Ht5
    iexact Ht9
  unfold later
  iintro ⟨HY, HO, Hab, Hc4, Hc5, HLn, HLp⟩
  iapply (part5_run m ρ K c v2 v4 v6) $$ [HT HY HOut HO Hc8 Ha8 HLn Ht6 Ht10]
  · isplitr; · iexact HK
    isplitr; · iexact Hlev
    isplitl [HT]; · iexact HT
    isplitl [HY]; · iexact HY
    isplitl [HOut]; · iexact HOut
    isplitl [HO]; · iexact HO
    isplitl [Hc8]; · iexact Hc8
    isplitl [Ha8]; · iexact Ha8
    isplitl [HLn]; · iexact HLn
    isplitl [Ht6]; · iexact Ht6
    iexact Ht10
  iintro ⟨HT, HY, HOut, HO, Ha8, Hc6, H1l, H1h⟩
  iapply (part6_run m ρ K c v4) $$ [HT HY HOut HO Hc9 Ha9 HLp Ht7 Ht11 H1l]
  · isplitr; · iexact HK
    isplitr; · iexact Hlev
    isplitl [HT]; · iexact HT
    isplitl [HY]; · iexact HY
    isplitl [HOut]; · iexact HOut
    isplitl [HO]; · iexact HO
    isplitl [Hc9]; · iexact Hc9
    isplitl [Ha9]; · iexact Ha9
    isplitl [HLp]; · iexact HLp
    isplitl [Ht7]; · iexact Ht7
    isplitl [Ht11]; · iexact Ht11
    iexact H1l
  iintro %v149 ⟨HT, HY, HOut, HO, Ha9, Hc7, H1l, H2l, H2h⟩
  iapply (part7_run m ρ K c v4 v6 v149) $$ [HT HY HOut HO Hc10 Hc11 Ha10 Ha11]
  · isplitr; · iexact HK
    isplitr; · iexact Hlev
    isplitl [HT]; · iexact HT
    isplitl [HY]; · iexact HY
    isplitl [HOut]; · iexact HOut
    isplitl [HO]; · iexact HO
    isplitl [Hc10]; · iexact Hc10
    isplitl [Hc11]; · iexact Hc11
    isplitl [Ha10]; · iexact Ha10
    iexact Ha11
  iintro ⟨HT, HY, HOut, HO, Ha10, Ha11, H3⟩
  iapply (part8_run m ρ K c v2) $$ [HT HY HOut HO Hc4 Hc5 Ha4 Ha5]
  · isplitr; · iexact HK
    isplitr; · iexact Hlev
    isplitl [HT]; · iexact HT
    isplitl [HY]; · iexact HY
    isplitl [HOut]; · iexact HOut
    isplitl [HO]; · iexact HO
    isplitl [Hc4]; · iexact Hc4
    isplitl [Hc5]; · iexact Hc5
    isplitl [Ha4]; · iexact Ha4
    iexact Ha5
  iintro ⟨HT, HY, HOut, HO, Ha4, Ha5, H0⟩
  iapply (wait_dma m ρ K c (dq 6) 3 rfl [] (fun a ha => absurd ha List.not_mem_nil) (hN := by rfl)) $$ [Hc6 HO Ha6]
  · isplitr; · iexact HK
    isplitr; · iexact Hlev
    isplitl [Hc6]; · iexact Hc6
    isplitl [HO]; · iexact HO
    iexact Ha6
  iintro ⟨HO, Ha6, H1r⟩
  ihave H1r := (Entails.of_eq (pay_6 m ρ c)) $$ H1r
  iapply (wait_dma m ρ K c (dq 7) 4 rfl [] (fun a ha => absurd ha List.not_mem_nil) (hN := by rfl)) $$ [Hc7 HO Ha7]
  · isplitr; · iexact HK
    isplitr; · iexact Hlev
    isplitl [Hc7]; · iexact Hc7
    isplitl [HO]; · iexact HO
    iexact Ha7
  iintro ⟨HO, Ha7, H2r⟩
  ihave H2r := (Entails.of_eq (pay_7 m ρ c)) $$ H2r
  ihave H1R := (c_split c 1 0 224 448 (by decide) (by decide) fullShare.right (CC (blkOf m ρ) c)).2 $$ [H1r H1h]
  · isplitl [H1r]; · iexact H1r
    iexact H1h
  ihave H1 := (c_halves c (rows 1 0 448) (CC (blkOf m ρ) c)).2 $$ [H1l H1R]
  · isplitl [H1l]; · iexact H1l
    iexact H1R
  ihave H2R := (c_split c 2 0 224 448 (by decide) (by decide) fullShare.right (CC (blkOf m ρ) c)).2 $$ [H2r H2h]
  · isplitl [H2h]; · iexact H2h
    iexact H2r
  ihave H2 := (c_halves c (rows 2 0 448) (CC (blkOf m ρ) c)).2 $$ [H2l H2R]
  · isplitl [H2l]; · iexact H2l
    iexact H2R
  ihave H3' := (c_split c 3 0 224 448 (by decide) (by decide) fullShare (CC (blkOf m ρ) c)).1 $$ H3
  icases H3' with ⟨H3l, H3h⟩
  ihave HC := (c_all c (CC (blkOf m ρ) c)).2 $$ [H0 H1 H2 H3l H3h]
  · isplitl [H0]; · iexact H0
    isplitl [H1]; · iexact H1
    isplitl [H2]; · iexact H2
    isplitl [H3l]; · iexact H3l
    iexact H3h
  imod (close_cell m ρ K c 0 (.reg barS) rfl) $$ [Hab] with Hzb
  · isplitr; · iexact HK
    iexact Hab
  imod (close_cell m ρ K c 1 (.dma (dq 4)) rfl) $$ [Ha4] with Hz4
  · isplitr; · iexact HK
    iexact Ha4
  imod (close_cell m ρ K c 2 (.dma (dq 5)) rfl) $$ [Ha5] with Hz5
  · isplitr; · iexact HK
    iexact Ha5
  imod (close_cell m ρ K c 3 (.dma (dq 6)) rfl) $$ [Ha6] with Hz6
  · isplitr; · iexact HK
    iexact Ha6
  imod (close_cell m ρ K c 4 (.dma (dq 7)) rfl) $$ [Ha7] with Hz7
  · isplitr; · iexact HK
    iexact Ha7
  imod (close_cell m ρ K c 5 (.dma (dq 8)) rfl) $$ [Ha8] with Hz8
  · isplitr; · iexact HK
    iexact Ha8
  imod (close_cell m ρ K c 6 (.dma (dq 9)) rfl) $$ [Ha9] with Hz9
  · isplitr; · iexact HK
    iexact Ha9
  imod (close_cell m ρ K c 7 (.dma (dq 10)) rfl) $$ [Ha10] with Hz10
  · isplitr; · iexact HK
    iexact Ha10
  imod (close_cell m ρ K c 8 (.dma (dq 11)) rfl) $$ [Ha11] with Hz11
  · isplitr; · iexact HK
    iexact Ha11
  iapply (run_ret c)
  iapply Hk
  unfold bodyEnd Φ₁ scr zeros
  isplitl [HG HY HC HT HN Hzb Hz4 Hz5 Hz6 Hz7 Hz8 Hz9 Hz10 Hz11]
  · isplitl [HG HY HC HT HN]
    · isplitl [HG]; · iexists _; iexact HG
      isplitl [HY]; · iexists _; iexact HY
      isplitl [HC]; · iexists _; iexact HC
      isplitl [HT]
      · unfold tab
        icases HT with ⟨%f, -, HT⟩
        iexists f; iexact HT
      iexact HN
    isplitl [Hzb]; · iexact Hzb
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    iexact Hz11
  isplitl [HO]; · iexact HO
  isplitl [HX]; · iexact HX
  isplitl [HR]; · iexact HR
  isplitl [HW]; · iexact HW
  iexact HOut

end Parts

end Cert.Moe
-- ==== Proof.Run.lean ====
/-
# The run of the whole mesh

The body as the pipeline asks for it; then the launch: the nine cells of every device are allotted their invariants,
the duties are dealt to the devices that pay them, each device gets the credits its waits draw on, and the whole
program runs to its end with every semaphore back at zero.
-/
module

public import proofs.«01_k».proof.Proof.Parts2
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## The body's obligation -/

/-- A staging buffer at stated contents, as the pipeline hands it over. -/
def stg (c : Dev nD) (b : Ref sig .tc) (X : Buf (Elt F) ((c : Thread nD τ).loc b)) : sProp 𝕄 :=
  iprop(∃ f : Buf (Elt F) ((c : Thread nD τ).loc b), ⌜f = X⌝ ∗ (((c : Thread nD τ).loc b) ↦{fullShare} f))

def before (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def after (c : Dev nD) : sProp 𝕄 :=
  iprop(Φ₁ (F := F) c ∗ (dats m ρ 0 c).owesAt () t₀.succ
    ∗ stg c cc0_stg0_0 (xs m ρ c) ∗ stg c cc0_stg1_0 (rs m ρ c) ∗ stg c cc0_stg2_0 (ws m ρ c) ∗ stg c cc0_stg3_0 (out4 m ρ c))

theorem fetched (w : Fin 4) (hw : w ≠ 3) (t : Fin cfg0.N) : (cfg0.win w).fetch t = true := by
  rw [fin_N t]
  fin_cases w
  · rfl
  · rfl
  · rfl
  · exact absurd rfl hw

theorem body_at (c : Dev nD) (hR : ∀ i, (rs m ρ c i).toNat < 32) :
    before m ρ c ⊢ run c (cc0_body xM (wh _) rM (wh _) wM (wh _) oM (wh _) gM (wh _) yM (wh _) cM (wh _) sM (wh _) nM (wh _) cc0_scratch5 cc0_scratch6) (fun _ => after m ρ c) := by
  unfold before Φ₀ start stg Dat.owesAt Pipeline.owesWithin
  iintro ⟨⟨⟨⟨%K, Hg⟩, Hc, Hl⟩, Hs⟩, ⟨%W, %hW, HO⟩, ⟨%d0, %g0, %e0, H0⟩, ⟨%d1, %g1, %e1, H1⟩, ⟨%d2, %g2, %e2, H2⟩, ⟨%d3, %g3, %e3, H3⟩⟩
  have h0 : g0 = xs m ρ c := by rw [e0]; unfold Dat.before; rw [if_pos (fetched 0 (by decide) t₀)]; rfl
  have h1 : g1 = rs m ρ c := by rw [e1]; unfold Dat.before; rw [if_pos (fetched 1 (by decide) t₀)]; rfl
  have h2 : g2 = ws m ρ c := by rw [e2]; unfold Dat.before; rw [if_pos (fetched 2 (by decide) t₀)]; rfl
  subst h0 h1 h2
  iapply (body_run m ρ K c hR) $$ [Hg Hc Hl Hs HO H0 H1 H2 H3]
  · unfold bodyPre owing pt
    isplitl [Hg]; · iexact Hg
    isplitl [Hc]; · iexact Hc
    isplitl [Hl]; · iexact Hl
    isplitl [Hs]; · iexact Hs
    isplitl [HO]; · iexists W; iexact HO
    isplitl [H0]; · iexact H0
    isplitl [H1]; · iexact H1
    isplitl [H2]; · iexact H2
    iexists g3; iexact H3
  unfold bodyEnd owing pt after stg Dat.owesAt Pipeline.owesWithin
  iintro ⟨HΦ, ⟨%W', HO⟩, H0, H1, H2, H3⟩
  isplitl [HΦ]; · iexact HΦ
  isplitl [HO]
  · iexists W'
    isplitr; · ipureintro; exact fun _ _ => Or.inl trivial
    iexact HO
  isplitl [H0]
  · iexists _
    isplitr; · ipureintro; rfl
    iexact H0
  isplitl [H1]
  · iexists _
    isplitr; · ipureintro; rfl
    iexact H1
  isplitl [H2]
  · iexists _
    isplitr; · ipureintro; rfl
    iexact H2
  iexists _
  isplitr; · ipureintro; rfl
  iexact H3

set_option maxRecDepth 4000 in
theorem obligation (hR : ∀ c i, (rs m ρ c i).toNat < 32) (c : Dev nD) :
    BodyObligation (dats (F := F) m ρ 0 c) (defs₀ (F := F)) 𝒱₀ () Set.univ := fun t => by
  rw [fin_N t, bigSep_W0, bigSep_W0]
  simp only [owns_whole_eq]
  exact body_at m ρ c (hR c)

/-! ## The launch element -/

theorem own_sems : Pipeline.OwnSemFacts cfg0.spec osem := by decide
theorem whole_share (c : Dev nD) (w : Fin cfg0.W) : (dats m ρ 0 c).share w = fullShare := by unfold Dat.share; split <;> rfl

theorem csem_inj : Function.Injective csem := by decide
theorem kcell_inj : Function.Injective (kcell : Dev nD × Fin 9 → GSem nD τ sig) := fun a b h =>
  Prod.ext (congrArg (fun g : GSem nD τ sig => g.1.1) h) (csem_inj (congrArg Prod.snd h))
def allCells : Finset (GSem nD τ sig) := Finset.univ.map ⟨kcell, kcell_inj⟩

/-- The duties at device `c`'s own cells: its barrier cell's two, then one for each transfer cell. -/
abbrev mint (a : Dev nD × Fin 10) : GSem nD τ sig × ℕ × Bool := match a.2 with
  | 0 => (bar a.1, 0, true) | 1 => (bar a.1, 0, false)
  | 2 => (dc a.1 (dq 4), 0, false) | 3 => (dc a.1 (dq 5), 0, false) | 4 => (dc a.1 (dq 6), 0, false) | 5 => (dc a.1 (dq 7), 0, false)
  | 6 => (dc a.1 (dq 8), 0, false) | 7 => (dc a.1 (dq 9), 0, false) | 8 => (dc a.1 (dq 10), 0, false) | 9 => (dc a.1 (dq 11), 0, false)
theorem mint_dev (a : Dev nD × Fin 10) : (mint a).1.1.1 = a.1 := by
  obtain ⟨c, j⟩ := a
  fin_cases j <;> rfl
theorem mint_kind : Function.Injective (fun j : Fin 10 => ((mint ((0 : Dev nD), j)).1.2, (mint ((0 : Dev nD), j)).2.2)) := by decide
theorem mint_at (c : Dev nD) (j : Fin 10) : ((mint (c, j)).1.2, (mint (c, j)).2.2) = ((mint ((0 : Dev nD), j)).1.2, (mint ((0 : Dev nD), j)).2.2) := by
  fin_cases j <;> rfl
theorem mint_inj : Function.Injective (mint : Dev nD × Fin 10 → GSem nD τ sig × ℕ × Bool) := by
  rintro ⟨c, j⟩ ⟨d, k⟩ h
  have hc : c = d := by
    have := congrArg (fun x : GSem nD τ sig × ℕ × Bool => x.1.1.1) h
    rw [mint_dev, mint_dev] at this
    exact this
  subst hc
  have hj : j = k := mint_kind (by
    have := congrArg (fun x : GSem nD τ sig × ℕ × Bool => (x.1.2, x.2.2)) h
    exact (mint_at c j).symm.trans (this.trans (mint_at c k)))
  rw [hj]
def allDuties : Finset (GSem nD τ sig × ℕ × Bool) := Finset.univ.map ⟨mint, mint_inj⟩

def u₀ : UU :=
  (initOf (Pipeline.cells cfgs cellOf_inj) (Pipeline.launchToks cfgs cellOf_inj), initOf allCells allDuties)

/-- The duties at device `c`'s own cells. -/
def minted (c : Dev nD) : sProp 𝕄 :=
  iprop(dutyTok ER (bar c) 0 true ∗ dutyTok ER (bar c) 0 false
    ∗ dutyTok ER (dc c (dq 4)) 0 false ∗ dutyTok ER (dc c (dq 5)) 0 false ∗ dutyTok ER (dc c (dq 6)) 0 false ∗ dutyTok ER (dc c (dq 7)) 0 false
    ∗ dutyTok ER (dc c (dq 8)) 0 false ∗ dutyTok ER (dc c (dq 9)) 0 false ∗ dutyTok ER (dc c (dq 10)) 0 false ∗ dutyTok ER (dc c (dq 11)) 0 false)

/-- What the launch element gives device `c`, and what it has once the invariants stand. -/
def dealt (c : Dev nD) : sProp 𝕄 :=
  iprop((bigSep Finset.univ fun k : Fin 9 => roundState ER (sched (blkOf m ρ)) (kcell (c, k)) 0)
    ∗ (bigSep Finset.univ fun k : Fin 9 => iprop(atPos ER (kcell (c, k)) 0 ∅ 0 ∗ reached ER (kcell (c, k)) 0)) ∗ minted c)
def ready (c : Dev nD) : sProp 𝕄 := iprop(∃ K, ghost m ρ K c)

omit [FloatOps F] in
theorem sep9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
omit [FloatOps F] in
theorem sep10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

omit [FloatOps F] in
theorem over_cells (Φ : GSem nD τ sig → sProp 𝕄) :
    bigSep allCells Φ = bigSep Finset.univ fun c : Dev nD => bigSep Finset.univ fun k : Fin 9 => Φ (kcell (c, k)) := by
  unfold allCells; rw [bigSep_map, bigSep_univ_prod]; rfl
omit [FloatOps F] in
theorem over_duties : bigSep allDuties (fun x => (dutyTok ER x.1 x.2.1 x.2.2 : sProp 𝕄)) = bigSep Finset.univ fun c : Dev nD => minted c := by
  unfold allDuties; rw [bigSep_map, bigSep_univ_prod]
  exact bigSep_congr fun c _ => by unfold minted; rw [sep10]; rfl

theorem deal : BI.own (ER (initOf allCells allDuties)) ⊢ (|==> bigSep Finset.univ (dealt m ρ) : sProp 𝕄) := by
  iintro H
  imod (Rounds.fund ER (sched (blkOf m ρ)) allCells allDuties) $$ H with ⟨Hs, Hr, Hp, Ht⟩
  imodintro
  ihave Hs := (Entails.of_eq (over_cells fun g => roundState ER (sched (blkOf m ρ)) g 0)) $$ Hs
  ihave Hp := (Entails.of_eq (over_cells (F := F) fun g => atPos ER g 0 ∅ 0)) $$ Hp
  ihave Hr := (Entails.of_eq (over_cells (F := F) fun g => reached ER g 0)) $$ Hr
  ihave Ht := (Entails.of_eq (over_duties (F := F))) $$ Ht
  unfold dealt
  simp only [bigSep_sep']
  isplitl [Hs]; · iexact Hs
  isplitl [Hp Hr]
  · isplitl [Hp]; · iexact Hp
    iexact Hr
  iexact Ht

/-! ## The cells' invariants -/

omit [FloatOps F] in
theorem own_zero (c : Dev nD) : (Pipeline.ownSems0 (Ix := Unit) (Name := ℕ) (U := UU) (Lvl := ℕ) (Val := Elt F) (τ := τ) osem c : sProp 𝕄)
    = iprop(semVal (dc c (dq 4)) 0 ∗ semVal (dc c (dq 5)) 0 ∗ semVal (dc c (dq 6)) 0 ∗ semVal (dc c (dq 7)) 0
      ∗ semVal (dc c (dq 8)) 0 ∗ semVal (dc c (dq 9)) 0 ∗ semVal (dc c (dq 10)) 0 ∗ semVal (dc c (dq 11)) 0) := by
  rw [Pipeline.ownSems0_eq_of_list c osem [0, 1, 2, 3, 4, 5, 6, 7] (by decide) (by decide)]; rfl
omit [FloatOps F] in
theorem unscoped_zero (c : Dev nD) : (unscopedSems0 c : sProp 𝕄) = semVal (bar c) 0 := by
  unfold unscopedSems0; rw [bigSep_eq_bigSepL_of_eq [SemLoc.reg barS] (by decide) (by decide)]; rfl

omit [FloatOps F] in
theorem all_zero (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [own_zero, unscoped_zero, sep9]
  iintro ⟨H, Hb⟩
  isplitl [Hb]; · iexact Hb
  iexact H

theorem stand (c : Dev nD) :
    iprop((bigSep Finset.univ fun k : Fin 9 => semVal (kcell (c, k)) 0) ∗ bigSep Finset.univ fun k : Fin 9 => roundState ER (sched (blkOf m ρ)) (kcell (c, k)) 0)
      ⊢ (|={Set.univ}=> bigSep Finset.univ fun k => iprop(∃ κ : ℕ, cellInv ER (sched (blkOf m ρ)) κ (kcell (c, k))) : sProp 𝕄) := by
  rw [← bigSep_sep']
  exact (bigSep_mono fun k _ => (Rounds.body_intro ER (sched (blkOf m ρ)) (kcell (c, k))).trans inv_alloc).trans (bigSep_fupd _ _)

theorem stand_at (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (sched (blkOf m ρ)) κ (kcell (c, k))))
          ∗ (bigSep Finset.univ fun k => iprop(atPos ER (kcell (c, k)) 0 ∅ 0 ∗ reached ER (kcell (c, k)) 0)) ∗ minted c) := by
  unfold dealt
  iintro ⟨Ho, Hu, Hs, Hp, Ht⟩
  ihave Hv := (all_zero (F := F) c) $$ [Ho Hu]
  · isplitl [Ho]; · iexact Ho
    iexact Hu
  imod (stand m ρ c) $$ [Hv Hs] with HI
  · isplitl [Hv]; · iexact Hv
    iexact Hs
  imodintro
  isplitl [HI]; · iexact HI
  isplitl [Hp]; · iexact Hp
  iexact Ht

/-! ## The duties dealt to those who pay them -/

omit [FloatOps F] in
theorem duties_dealt : (bigSep Finset.univ fun c : Dev nD => (minted c : sProp 𝕄)) ⊢ bigSep Finset.univ fun c : Dev nD => dues c := by
  unfold minted dues
  simp only [bigSep_sep']
  rw [bigSep_univ_equiv ring.symm (fun c : Dev nD => (dutyTok ER (bar c) 0 true : sProp 𝕄)),
    bigSep_univ_equiv ring (fun c : Dev nD => (dutyTok ER (bar c) 0 false : sProp 𝕄)),
    bigSep_univ_equiv ring (fun c : Dev nD => (dutyTok ER (dc c (dq 8)) 0 false : sProp 𝕄)),
    bigSep_univ_equiv ring.symm (fun c : Dev nD => (dutyTok ER (dc c (dq 9)) 0 false : sProp 𝕄)),
    bigSep_univ_equiv ring (fun c : Dev nD => (dutyTok ER (dc c (dq 10)) 0 false : sProp 𝕄)),
    bigSep_univ_equiv ring.symm (fun c : Dev nD => (dutyTok ER (dc c (dq 11)) 0 false : sProp 𝕄))]
  exact BI.Entails.refl _

omit [FloatOps F] in
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ready_intro (K : Dev nD × Fin 9 → ℕ) (c : Dev nD) : iprop(recs m ρ K ∗ posns c ∗ dues c) ⊢ ready m ρ c := by
  unfold ready ghost
  iintro H
  iexists K
  iexact H

theorem posns_eq : (bigSep Finset.univ fun c : Dev nD => bigSep Finset.univ fun k : Fin 9 => (atPos ER (kcell (c, k)) 0 ∅ 0 : sProp 𝕄))
    = bigSep Finset.univ fun c : Dev nD => posns c :=
  bigSep_congr fun c _ => by rw [sep9]; rfl

theorem gather :
    (bigSep Finset.univ fun c : Dev nD => iprop((bigSep Finset.univ fun k => iprop(∃ κ : ℕ, cellInv ER (sched (blkOf m ρ)) κ (kcell (c, k))))
          ∗ (bigSep Finset.univ fun k => iprop(atPos ER (kcell (c, k)) 0 ∅ 0 ∗ reached ER (kcell (c, k)) 0)) ∗ minted c) : sProp 𝕄)
      ⊢ bigSep Finset.univ (ready m ρ) := by
  simp only [bigSep_sep']
  rw [← bigSep_univ_prod (fun ck : Dev nD × Fin 9 => iprop(∃ κ : ℕ, cellInv ER (sched (blkOf m ρ)) κ (kcell ck))),
    ← bigSep_univ_prod (fun ck : Dev nD × Fin 9 => (reached ER (kcell ck) 0 : sProp 𝕄)), posns_eq]
  iintro ⟨HI, ⟨Hp, #HR⟩, Ht⟩
  ihave HI := (BI.bigSep_exists_pi Finset.univ (fun (ck : Dev nD × Fin 9) (κ : ℕ) => (cellInv ER (sched (blkOf m ρ)) κ (kcell ck) : sProp 𝕄))) $$ HI
  icases HI with ⟨%K, #HI⟩
  ihave Ht := (duties_dealt (F := F)) $$ Ht
  iapply (with_all (R := recs m ρ K) fun c _ => ready_intro m ρ K c)
  isplitr
  · unfold recs
    isplitl; · iexact HI
    iexact HR
  simp only [bigSep_sep']
  isplitl [Hp]; · iexact Hp
  iexact Ht

theorem allot : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ready m ρ) :=
  ((bigSep_mono fun c _ => stand_at m ρ c).trans (bigSep_fupd _ _)).trans (BI.fupd_mono (gather m ρ))

/-! ## The credits at the launch -/

omit [FloatOps F] in
theorem owed_cons (a : GSem nD τ sig × ℕ) (l : List (GSem nD τ sig × ℕ)) (g : GSem nD τ sig) :
    debt (a :: l) g () = debt l g () + (if g = a.1 then a.2 else 0) := by
  rw [debt, Pi.add_apply, Finsupp.add_apply, tallyAt_apply]
  simp only [and_true]

theorem owed_all (d : Dev nD) (g : GSem nD τ sig) : debt (dl6 d) g ()
    = 0 + (if g = dc (prv d) (dq 11) then NB else 0) + (if g = dc (nxt d) (dq 10) then NB else 0) + (if g = dc (prv d) (dq 9) then NA else 0)
      + (if g = dc (nxt d) (dq 8) then NA else 0) + (if g = bar (nxt d) then 1 else 0) + (if g = bar (prv d) then 1 else 0) := by
  rw [dl6, owed_cons, dl5, owed_cons, dl4, owed_cons, dl3, owed_cons, dl2, owed_cons, dl1, owed_cons]
  rfl

theorem cell_iff (c d : Dev nD) (s t : SemLoc sig) : (((c : Thread nD τ), s) : GSem nD τ sig) = ((d : Thread nD τ), t) ↔ c = d ∧ s = t :=
  ⟨fun h => ⟨congrArg (fun g : GSem nD τ sig => g.1.1) h, congrArg Prod.snd h⟩, fun ⟨h, h'⟩ => by rw [h, h']⟩

theorem due_sum (c : Dev nD) (s : SemLoc sig) (n : ℕ)
    (h : s = .reg barS ∧ n = 2 ∨ s = .dma (dq 8) ∧ n = NA ∨ s = .dma (dq 9) ∧ n = NA ∨ s = .dma (dq 10) ∧ n = NB ∨ s = .dma (dq 11) ∧ n = NB) :
    ∑ d : Dev nD, debt (dl6 d) ((c : Thread nD τ), s) () = n := by
  rw [Finset.sum_congr rfl fun d _ => owed_all d _]
  rw [show ∀ f : Dev nD → ℕ, ∑ d : Dev nD, f d = f 0 + f 1 + f 2 + f 3 from Fin.sum_univ_four]
  simp only [cell_iff]
  generalize NA = a at h ⊢
  generalize NB = b at h ⊢
  rcases h with ⟨rfl, rfl⟩ | ⟨rfl, rfl⟩ | ⟨rfl, rfl⟩ | ⟨rfl, rfl⟩ | ⟨rfl, rfl⟩ <;> fin_cases c <;> simp (decide := true) [nxt, prv]

omit [FloatOps F] in
theorem credit_at (c : Dev nD) (s : SemLoc sig) (n : ℕ) (h : ∑ d : Dev nD, debt (dl6 d) ((c : Thread nD τ), s) () = n) :
    tallyOn ((c : Thread nD τ), s) (launchCredit (Pipeline.owing fun d => debt (dl6 d)) 0 ((c : Thread nD τ), s))
      = (tallyAt ((c : Thread nD τ), s) () n : CellTallies nD τ sig Unit) := by
  unfold tallyAt
  refine congrArg _ (Finsupp.ext fun u => ?_)
  cases u
  rw [Pipeline.launchCredit_owing, Finsupp.single_eq_same, h]

omit [FloatOps F] in
theorem credits_intro (c : Dev nD) : (Pipeline.launchCred (fun d => debt (dl6 d)) c : sProp 𝕄) ⊢ credits c := by
  unfold Pipeline.launchCred credits
  refine (BI.bigSep_subset (Finset.subset_univ ([SemLoc.reg barS, .dma (dq 8), .dma (dq 9), .dma (dq 10), .dma (dq 11)] : List (SemLoc sig)).toFinset)).trans ?_
  rw [bigSep_eq_bigSepL_of_eq [SemLoc.reg barS, .dma (dq 8), .dma (dq 9), .dma (dq 10), .dma (dq 11)] rfl (by decide)]
  simp only [bigSepL_cons_cons, bigSepL_singleton]
  rw [credit_at c _ 2 (due_sum c _ _ (.inl ⟨rfl, rfl⟩)), credit_at c _ NA (due_sum c _ _ (.inr (.inl ⟨rfl, rfl⟩))),
    credit_at c _ NA (due_sum c _ _ (.inr (.inr (.inl ⟨rfl, rfl⟩)))), credit_at c _ NB (due_sum c _ _ (.inr (.inr (.inr (.inl ⟨rfl, rfl⟩))))),
    credit_at c _ NB (due_sum c _ _ (.inr (.inr (.inr (.inr ⟨rfl, rfl⟩)))))]
  exact BI.Entails.refl _

/-! ## The run -/

/-- The one argument no window reads, as launched. -/
def aside (c : Dev nD) : sProp 𝕄 := iprop(((c : Thread nD τ).loc main_arg1) ↦{fullShare} (m ((c : Thread nD τ).loc main_arg1)))

theorem at_start (c : Dev nD) :
    iprop(Pipeline.unscopedRestP Pipeline.Prefetch.none cfg0.spec c (fun b => m ((c : Thread nD τ).loc b)) ∗ levAts L lv
        ∗ Pipeline.launchCred (fun d => debt (dl6 d)) c ∗ prngReg c (ρ c) ∗ ready m ρ c)
      ⊢ |={Set.univ}=> iprop(start m ρ c ∗ aside m c) := by
  rw [Pipeline.unscopedRestP_none, unscopedRest0_eq]
  iintro ⟨Hm, Hl, Hc, -, Hg⟩
  ihave Hc := (credits_intro (F := F) c) $$ Hc
  imodintro
  unfold start ready aside
  isplitl [Hl Hc Hg]
  · isplitl [Hg]; · iexact Hg
    isplitl [Hc]; · iexact Hc
    iexact Hl
  iexact Hm

theorem at_entry (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr pt
  iintro ⟨Hs, -, Hr⟩
  isplitl [Hs]; · iexact Hs
  iexact Hr

theorem at_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, own_zero, unscoped_zero]
  unfold Φ₁ scr zeros pt
  iintro ⟨Hr, Hb, Hz⟩
  isplitl [Hb]; · iexact Hb
  isplitl [Hz]; · iexact Hz
  iexact Hr

theorem low_stage (w : Fin 4) (s : Fin (cfg0.win w).nbuf) : lvs (.dma ((cfg0.win w).sem s)) = 0 := by
  fin_cases w <;> fin_cases s <;> rfl

theorem may_stage (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact may_wait c _ (dl6 c) (fun a ha => ⟨(low6 c a ha).1, (low_stage w s).symm ▸ (low6 c a ha).2⟩)
    · exact may_wait c _ [] (fun a ha => absurd ha List.not_mem_nil)

/-- What the run ends in: every window's array at its final contents, the argument aside as it was, all semaphores zero. -/
def Ends (r : PUnit × MemSt nD τ sig (Elt F)) : Prop :=
  (∀ c : Dev nD, (∀ w : Fin cfg0.W, r.2.mem ((cfg0.win w).arr.view.loc (c : Thread nD τ)) = (dats m ρ 0 c).arrAt w cfg0.N)
    ∧ r.2.mem ((c : Thread nD τ).loc main_arg1) = m ((c : Thread nD τ).loc main_arg1)) ∧ r.2.sem = fun _ => 0

theorem read_aside (c : Dev nD) (s' : Phys nD τ sig (Elt F)) :
    iprop(unscopedSems0 c ∗ aside m c ∗ SI s')
      ⊢ |={Set.univ}=> (iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') : sProp 𝕄) := by
  unfold aside
  iintro ⟨Hu, Hm, HSI⟩
  icombine HSI Hm gives %h
  imod (Pipeline.unscopedSems0_read (X := unscopedSems0 c) (c := c) fupd_intro s') $$ [Hu HSI] with ⟨%hs, HSI⟩
  · isplitl [Hu]; · iexact Hu
    iexact HSI
  imodintro
  isplitr
  · ipureintro
    exact ⟨hs, Buf.eq_of_forall_mem_univ h⟩
  iexact HSI

set_option maxRecDepth 8000 in
/-- From any memory whose routing is in range on every device, with the semaphores at zero, the program of the four
    devices ends, and ends so. -/
theorem run_main (hR : ∀ c i, (rs m ρ c i).toNat < 32) : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := obligation m ρ hR) (hne := fun w => by fin_cases w <;> exact Nat.succ_pos _) (harr := arr_whole0) (hstage := stage_whole0)
    (hshare := whole_share m ρ) (hdistinct := winFacts0.arr_inj)
    (O₀ := fun d => debt (dl6 d)) (howed₀ := fun _ => rfl) (howedN := fun _ => rfl)
    (L := L) (lv := lv) (hL := L_of_ne) (hwaits := may_stage m ρ)
    (G := dealt m ρ) (G' := ready m ρ) (u₀ := u₀)
    (hu₀ := by
      unfold u₀
      iintro Hu
      ihave H := (ownU_pair _ _) $$ Hu
      icases H with ⟨HP, HX⟩
      imod (deal m ρ) $$ HX with HG
      imodintro
      isplitl [HP]; · iexact HP
      iexact HG)
    (hglob := allot m ρ)
    (hA := fun _ _ => rfl) (hpf := fun _ k => k.elim0)
    (X := start m ρ) (Y := fun c => unscopedSems0 c) (Z := aside m)
    (hX := at_start m ρ) (hin := at_entry m ρ) (hout := at_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_aside m)
    (hQ := fun _ h hs => ⟨fun c => ⟨fun w => (h c).1 w, (h c).2.2.2⟩, sem_eq_zero hs fun c => (h c).2.2.1⟩)

end Cert.Moe
-- ==== Proof.Input.lean ====
/-
# The routing in range

The precondition says that every entry of the routing array is between 0 and 31; here that is read off the printed
predicate, for the words the kernel's staged copy holds.
-/
module

public import proofs.«01_k».proof.Proof.Sched
public import proofs.«01_k».proof.Proof.Gen.Pre_routes_Kernel
public import Idealize.ShloMosaic.Lib.ReduceAll
public import Idealize.ShloMosaic.Lib.PointwiseCore

@[expose] public section

noncomputable section

namespace Cert.Moe

open Idealize.ShloMosaic
open Idealize.ShloMosaic.TcCoe

variable {F : FTy → Type} [FloatOps F]

theorem word_range (w : BitVec 32) (h : IntOp.andi (IntOp.cmpi .sge w 0#32) (IntOp.cmpi .slt w 32#32) = 1#1) : w.toNat < 32 := by
  have hs : (0#32).sle w = true ∧ w.slt 32#32 = true := by
    revert h
    unfold IntOp.andi IntOp.cmpi
    cases h1 : (0#32).sle w <;> cases h2 : w.slt 32#32 <;> simp_all
  have h1 := hs.1
  have h2 := hs.2
  rw [BitVec.sle_iff_toInt_le] at h1
  rw [BitVec.slt_iff_toInt_lt] at h2
  have : (32#32 : BitVec 32).toInt = 32 := by decide
  have : (0#32 : BitVec 32).toInt = 0 := by decide
  have e := BitVec.toInt_eq_toNat_cond w
  have hw := w.isLt
  split at e <;> omega

theorem routes_range (x : Cert.Pre_routes_Kernel.S2048x1024.Idx → F .f32) (g : Cert.Pre_routes_Kernel.S1024x32.Idx → F .f32)
    (r : Cert.Pre_routes_Kernel.S2048x1.Idx → BitVec 32) (w : Cert.Pre_routes_Kernel.S8x1024x1024.Idx → F .f32)
    (h : Cert.Pre_routes_Kernel.fn x g r w = fun _ => 1#1) (i : Cert.Pre_routes_Kernel.S2048x1.Idx) : (r i).toNat < 32 := by
  unfold Cert.Pre_routes_Kernel.fn at h
  haveI : Subsingleton Cert.Pre_routes_Kernel.S_.Idx := ⟨fun a b => funext fun x => x.elim0⟩
  have := Host.reduce_andi_all _ _ _ _ _ (congrFun h (fun a => a.elim0)) i
  exact word_range _ this

open Cert.KernelIdeal

variable (m : (ℓ : Loc nD τ sig) → Buf (Elt F) ℓ) (ρ : Dev nD → PrngReg)

/-! ### A window's one block is its whole array -/

theorem xs_eq (c : Dev nD) : xs m ρ c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

theorem rs_eq (c : Dev nD) : rs m ρ c = m ((c.tc : Thread nD τ).loc main_arg2) := by
  have hz : (fun a => (win0_1.index (0 : Fin 1)) a * main_arg2.ty.shape.size a) = fun _ => 0 :=
    funext fun a => by fin_cases a <;> decide
  exact Memref.read_access_unit_zero (Elt F) main_arg2 hz (fun a => by fin_cases a <;> decide) _

theorem ws_eq (c : Dev nD) : ws m ρ c = m ((c.tc : Thread nD τ).loc main_arg3) := by
  have hz : (fun a => (win0_2.index (0 : Fin 1)) a * main_arg3.ty.shape.size a) = fun _ => 0 :=
    funext fun a => by fin_cases a <;> decide
  exact Memref.read_access_unit_zero (Elt F) main_arg3 hz (fun a => by fin_cases a <;> decide) _

/-- Under the precondition every routing word a device holds is below 32. -/
theorem in_range (h : ∀ c : Dev nD, Cert.Pre_routes_Kernel.fn (m ((c.tc : Thread nD τ).loc main_arg0))
      (m ((c.tc : Thread nD τ).loc main_arg1)) (m ((c.tc : Thread nD τ).loc main_arg2))
      (m ((c.tc : Thread nD τ).loc main_arg3)) = fun _ => 1#1) (c : Dev nD) (i : S2048x1.Idx) :
    (rs m ρ c i).toNat < 32 := by
  rw [rs_eq]
  exact routes_range _ _ _ _ (h c) i

end Cert.Moe
-- ==== Proof.Ending.lean ====
/-
# How the run ends

The four arguments as they were, every semaphore at zero, and the result array holding what the last part of the body
stored; and the three runs' frames.
-/
module

public import proofs.«01_k».proof.Proof.Run
public import proofs.«01_k».proof.Proof.Input
public import proofs.«01_k».proof.Proof.Gen.Kernel
public import proofs.«01_k».proof.Proof.Gen.ReferenceIdeal
public import proofs.«01_k».proof.Proof.Gen.ReferenceIdeal.Run
public import proofs.«01_k».proof.Proof.Gen.Pre_routes_ReferenceIdeal
public import proofs.«01_k».proof.Defs

@[expose] public section

noncomputable section

namespace Cert.Moe

open Idealize.ShloMosaic
open Idealize.ShloMosaic.TcCoe
open Cert.KernelIdeal

variable {F : FTy → Type} [FloatOps F]
variable (m : (ℓ : Loc nD τ sig) → Buf (Elt F) ℓ) (ρ : Dev nD → PrngReg)

/-- The result window writes its one block back, and that block is the whole result array. -/
theorem result_end (c : Dev nD) : (dats m ρ 0 c).arrAt (3 : Fin 4) cfg0.N = out4 m ρ c := by
  have hz : (fun a => (win0_3.index (0 : Fin 1)) a * main_v1.ty.shape.size a) = fun _ => 0 :=
    funext fun a => by fin_cases a <;> decide
  have hr := fun f => Memref.read_access_unit_zero (Elt F) main_v1 hz (fun a => by fin_cases a <;> decide) f
  refine (hr _).symm.trans ?_
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

/-- A device's arguments after the run. -/
theorem args_end {r : PUnit × MemSt nD τ sig (Elt F)} (h : Ends m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h.1 c).1 (0 : Fin 4)).trans ((dats (F := F) m ρ 0 c).arrAt_in (0 : Fin 4) rfl _), (h.1 c).2,
    ((h.1 c).1 (1 : Fin 4)).trans ((dats (F := F) m ρ 0 c).arrAt_in (1 : Fin 4) rfl _),
    ((h.1 c).1 (2 : Fin 4)).trans ((dats (F := F) m ρ 0 c).arrAt_in (2 : Fin 4) rfl _)⟩

/-- A device's result after the run. -/
theorem out_end {r : PUnit × MemSt nD τ sig (Elt F)} (h : Ends m ρ r) (c : Dev nD) :
    r.2.mem ((c.tc : Thread nD τ).loc main_v1) = out4 m ρ c :=
  ((h.1 c).1 (3 : Fin 4)).trans (result_end m ρ c)

theorem frame_kernelIdeal : Cert.quiescent_KernelIdeal := fun m g hpre =>
  (θ_run Cert.KernelIdeal.defs _ _).mono (fun _ h => ⟨fun c => args_end m g h c, h.2⟩)
    (run_main (F := Ideal) m g (in_range m g hpre))

theorem kernel_main : (Cert.Kernel.main (F := Bits)) = Cert.KernelIdeal.main := rfl

theorem kernel_labels : (Cert.Kernel.defs₀ (F := Bits)) = Cert.KernelIdeal.defs₀ := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

theorem kernel_defs : (Cert.Kernel.defs (F := Bits)) = Cert.KernelIdeal.defs := by
  unfold Cert.Kernel.defs Cert.KernelIdeal.defs
  rw [kernel_labels]
  rfl

/-- The bit-exact program is the same text read at words. -/
theorem frame_kernel : Cert.quiescent_Kernel := by
  intro m g hpre
  rw [kernel_main, kernel_defs]
  have h := run_main (F := Bits) m g (in_range m g hpre)
  exact (θ_run Cert.KernelIdeal.defs _ _).mono (fun _ h => ⟨fun c => args_end m g h c, h.2⟩) h

/-- The reference writes none of its arguments and has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

end Cert.Moe
-- ==== Proof.Value.lean ====
/-
# The value

Over the extended reals: what the four scatters leave is, at row `t`, token `t` times its expert's matrix when the token
has a slot and zero when it has none, and the reference's result is the same.
-/
module

public import proofs.«01_k».proof.Proof.Ending
public import Idealize.ShloMosaic.Lib.Pointwise
public import Idealize.ShloMosaic.Lib.LayoutAt
public import Idealize.ShloMosaic.Lib.StableHlo.Predicate

@[expose] public section

noncomputable section

namespace Cert.Moe

open Idealize.ShloMosaic
open Idealize.ShloMosaic.TcCoe
open Cert.KernelIdeal Cert.KernelIdeal.Gen

/-! ### The scatters -/

section Scatter

variable {F : FTy → Type} [FloatOps F]

/-- A row that a block holds ends as the block's row, another keeps what it had. -/
theorem scat_cases (T : ℕ → ℕ) (o : ℕ) (y : S448x1024.Idx → F .f32) (f0 G : S2048x1024.Idx → F .f32)
    (hy : ∀ (k : Fin 448) (i : S2048x1024.Idx), (i 0).val = T (448 * o + k.val) → y (ix2 k (i 1 : Fin 1024)) = G i)
    (i : S2048x1024.Idx) : ∀ n, n ≤ 448 →
      ((∃ k, k < n ∧ (i 0).val = T (448 * o + k)) → scat T o y f0 n i = G i)
        ∧ ((¬ ∃ k, k < n ∧ (i 0).val = T (448 * o + k)) → scat T o y f0 n i = f0 i)
  | 0, _ => ⟨fun ⟨k, hk, _⟩ => absurd hk (Nat.not_lt_zero _), fun _ => rfl⟩
  | n + 1, hn => by
      have ih := scat_cases T o y f0 G hy i n (by omega)
      rw [scat_succ]
      have hm : min n 447 = n := by omega
      by_cases h : (i 0).val = T (448 * o + n)
      · refine ⟨fun _ => ?_, fun hno => absurd ⟨n, Nat.lt_succ_self n, h⟩ hno⟩
        simp only [if_pos h]
        have := hy ⟨min n 447, by omega⟩ i (by simpa only [hm] using h)
        exact this
      · simp only [if_neg h]
        refine ⟨fun ⟨k, hk, he⟩ => ih.1 ⟨k, ?_, he⟩, fun hno => ih.2 fun ⟨k, hk, he⟩ => hno ⟨k, by omega, he⟩⟩
        rcases Nat.lt_succ_iff_lt_or_eq.mp hk with h1 | h1
        · exact h1
        · subst h1; exact absurd he h

end Scatter

/-! ### The vector expressions -/

theorem pay2_at (g : S56x1024.Idx → Ideal .f32) (w : S1x1024x1024.Idx → Ideal .f32) (r : Fin 56) (h : Fin 1024) :
    k0_pay2 (F := Ideal) g w (ix2 r h) = ∑ d : Fin 1024, g (ix2 r d) * w (ix3 (0 : Fin 1) d h) := by
  pointwise [k0_pay2]

theorem pay11_at (i : S2048x1024.Idx) : k0_pay11 (F := Ideal) i = 0 := by
  pointwise [k0_pay11]

theorem send12 (y : S448x1024.Idx → Ideal .f32) : k0_pay12 (F := Ideal) (k0_pay10 (F := Ideal) y) = y := by
  funext i
  idx_vars i
  pointwise [k0_pay12, k0_pay10]

theorem send13 (y : S448x1024.Idx → Ideal .f32) : k0_pay14 (F := Ideal) (k0_pay13 (F := Ideal) (k0_pay10 (F := Ideal) y)) = y := by
  funext i
  idx_vars i
  pointwise [k0_pay14, k0_pay13, k0_pay10]

theorem send15 (y : S448x1024.Idx → Ideal .f32) : k0_pay15 (F := Ideal) (k0_pay10 (F := Ideal) y) = y := by
  funext i
  idx_vars i
  pointwise [k0_pay15, k0_pay10]

/-! ### What the kernel leaves -/

abbrev Whole : Shape := ⟨3, ![32, 1024, 1024]⟩

/-- Token `i 0` times the matrix of its expert, at column `i 1`. -/
def prod (x : S2048x1024.Idx → Ideal .f32) (R : S2048x1.Idx → BitVec 32) (W : Whole.Idx → Ideal .f32) (i : S2048x1024.Idx) : Ideal .f32 :=
  ∑ d : Fin 1024, x (ix2 (i 0 : Fin 2048) d) * W (ix3 (⟨min (eOf R (i 0).val) 31, by omega⟩ : Fin 32) d (i 1 : Fin 1024))

section Kernel

variable (m : (ℓ : Loc nD τ sig) → Buf (Elt Ideal) ℓ) (ρ : Dev nD → PrngReg)
variable (x : S2048x1024.Idx → Ideal .f32) (R : S2048x1.Idx → BitVec 32) (W : Whole.Idx → Ideal .f32)

theorem own_row (hx : ∀ c, xs m ρ c = x) (hr : ∀ c, rs m ρ c = R) (hw : ∀ c, ws m ρ c = Layout.block S8x1024x1024 Whole 0 4 c W)
    (o : Dev nD) (k : Fin 448) (i : S2048x1024.Idx) (h : (i 0).val = tok R (448 * o.val + k.val)) :
    yOwn m ρ o (ix2 k (i 1 : Fin 1024)) = prod x R W i := by
  have hi : (i 0).val < 2048 := (i 0).isLt
  have hs := (slotTok_iff (eOf R) (448 * o.val + k.val) (i 0).val hi).1 h.symm
  have ho : o.val < 4 := o.isLt
  have hk := k.isLt
  have he : eOf R (i 0).val = 8 * o.val + k.val / 56 := by omega
  unfold yOwn experts expert prod
  refine (pay2_at _ _ _ _).trans ?_
  rw [hx, hr, hw]
  refine Finset.sum_congr rfl fun d _ => ?_
  refine congrArg₂ (· * ·) ?_ ?_
  · unfold gath
    refine congrArg x ?_
    funext a
    refine Fin.ext ?_
    fin_cases a
    · show min (tok R (448 * o.val + (56 * (k.val / 56) + k.val % 56))) 2047 = (i 0).val
      rw [Nat.div_add_mod, ← h]
      omega
    · rfl
  · rw [Layout.block_apply]
    refine congrArg W ?_
    funext a
    refine Fin.ext ?_
    fin_cases a
    · show o.val * 8 + k.val / 56 = min (eOf R (i 0).val) 31
      omega
    · rfl
    · rfl

theorem out4_cases (hx : ∀ c, xs m ρ c = x) (hr : ∀ c, rs m ρ c = R) (hw : ∀ c, ws m ρ c = Layout.block S8x1024x1024 Whole 0 4 c W)
    (c : Dev nD) (i : S2048x1024.Idx) :
    ((∃ s, s < 1792 ∧ (i 0).val = tok R s) → out4 m ρ c i = prod x R W i)
      ∧ ((¬ ∃ s, s < 1792 ∧ (i 0).val = tok R s) → out4 m ρ c i = 0) := by
  have hc : c.val < 4 := c.isLt
  have hown := own_row m ρ x R W hx hr hw
  have h1 := scat_cases (tok R) c.val (yOwn m ρ c) (k0_pay11 (F := Ideal)) (prod x R W) (hown c) i 448 le_rfl
  have h2 := scat_cases (tok R) ((c.val + 3) % 4) (k0_pay12 (F := Ideal) (blkOf m ρ (prv c))) (out1 m ρ c) (prod x R W)
    (fun k j hj => (congrFun (send12 _) _).trans (hown (prv c) k j hj)) i 448 le_rfl
  have h3 := scat_cases (tok R) ((c.val + 1) % 4) (k0_pay14 (F := Ideal) (k0_pay13 (F := Ideal) (blkOf m ρ (nxt c)))) (out2 m ρ c) (prod x R W)
    (fun k j hj => (congrFun (send13 _) _).trans (hown (nxt c) k j hj)) i 448 le_rfl
  have hpp : (prv (prv c)).val = (c.val + 2) % 4 := by show ((c.val + 3) % 4 + 3) % 4 = _; omega
  have h4 := scat_cases (tok R) ((c.val + 2) % 4) (k0_pay15 (F := Ideal) (blkOf m ρ (prv (prv c)))) (out3 m ρ c) (prod x R W)
    (fun k j hj => (congrFun (send15 _) _).trans (hown (prv (prv c)) k j (by rw [hpp]; exact hj))) i 448 le_rfl
  have e1 : out1 m ρ c i = scat (tok R) c.val (yOwn m ρ c) (k0_pay11 (F := Ideal)) 448 i := by unfold out1; rw [hr]
  have e2 : out2 m ρ c i = scat (tok R) ((c.val + 3) % 4) (k0_pay12 (F := Ideal) (blkOf m ρ (prv c))) (out1 m ρ c) 448 i := by
    unfold out2; rw [hr]
  have e3 : out3 m ρ c i = scat (tok R) ((c.val + 1) % 4) (k0_pay14 (F := Ideal) (k0_pay13 (F := Ideal) (blkOf m ρ (nxt c)))) (out2 m ρ c) 448 i := by
    unfold out3; rw [hr]
  have e4 : out4 m ρ c i = scat (tok R) ((c.val + 2) % 4) (k0_pay15 (F := Ideal) (blkOf m ρ (prv (prv c)))) (out3 m ρ c) 448 i := by
    unfold out4; rw [hr]
  rw [← e1] at h1
  rw [← e2] at h2
  rw [← e3] at h3
  rw [← e4] at h4
  have in_slot : ∀ {o k : ℕ}, o < 4 → k < 448 → (i 0).val = tok R (448 * o + k) → ∃ s, s < 1792 ∧ (i 0).val = tok R s :=
    fun {o k} ho hk h => ⟨448 * o + k, by omega, h⟩
  have all : ∀ P : Prop, (∀ o, o < 4 → ¬ (∃ k, k < 448 ∧ (i 0).val = tok R (448 * o + k))) → (∃ s, s < 1792 ∧ (i 0).val = tok R s) → P := by
    rintro P hno ⟨s, hs, h⟩
    exact absurd ⟨s % 448, Nat.mod_lt _ (by decide), by rw [Nat.div_add_mod]; exact h⟩ (hno (s / 448) (by omega))
  by_cases k4 : ∃ k, k < 448 ∧ (i 0).val = tok R (448 * ((c.val + 2) % 4) + k)
  · exact ⟨fun _ => h4.1 k4, fun hno => absurd (in_slot (by omega) k4.choose_spec.1 k4.choose_spec.2) hno⟩
  rw [h4.2 k4]
  by_cases k3 : ∃ k, k < 448 ∧ (i 0).val = tok R (448 * ((c.val + 1) % 4) + k)
  · exact ⟨fun _ => h3.1 k3, fun hno => absurd (in_slot (by omega) k3.choose_spec.1 k3.choose_spec.2) hno⟩
  rw [h3.2 k3]
  by_cases k2 : ∃ k, k < 448 ∧ (i 0).val = tok R (448 * ((c.val + 3) % 4) + k)
  · exact ⟨fun _ => h2.1 k2, fun hno => absurd (in_slot (by omega) k2.choose_spec.1 k2.choose_spec.2) hno⟩
  rw [h2.2 k2]
  by_cases k1 : ∃ k, k < 448 ∧ (i 0).val = tok R (448 * c.val + k)
  · exact ⟨fun _ => h1.1 k1, fun hno => absurd (in_slot hc k1.choose_spec.1 k1.choose_spec.2) hno⟩
  rw [h1.2 k1]
  refine ⟨all _ fun o ho => ?_, fun _ => pay11_at i⟩
  obtain h | h | h | h : o = c.val ∨ o = (c.val + 3) % 4 ∨ o = (c.val + 1) % 4 ∨ o = (c.val + 2) % 4 := by omega
  all_goals subst h; assumption

/-- A token has a slot exactly when its rank is below 51. -/
theorem has_slot (hR : ∀ i, (R i).toNat < 32) (t : ℕ) (ht : t < 2048) :
    (∃ s, s < 1792 ∧ t = tok R s) ↔ rankN (eOf R) t < 51 := by
  have he : eOf R t < 32 := by
    unfold eOf
    rw [dif_pos ht]
    exact hR _
  constructor
  · rintro ⟨s, _, h⟩
    exact ((slotTok_iff (eOf R) s t ht).1 h.symm).2
  · intro h
    exact ⟨eOf R t * 56 + rankN (eOf R) t, by omega, ((slotTok_iff (eOf R) _ t ht).2 ⟨rfl, h⟩).symm⟩

theorem out4_eq (hx : ∀ c, xs m ρ c = x) (hr : ∀ c, rs m ρ c = R) (hw : ∀ c, ws m ρ c = Layout.block S8x1024x1024 Whole 0 4 c W)
    (hR : ∀ i, (R i).toNat < 32) (c : Dev nD) (i : S2048x1024.Idx) :
    out4 m ρ c i = if rankN (eOf R) (i 0).val < 51 then prod x R W i else 0 := by
  have hs := has_slot R hR (i 0).val (i 0).isLt
  split
  · next h => exact (out4_cases m ρ x R W hx hr hw c i).1 (hs.2 h)
  · next h => exact (out4_cases m ρ x R W hx hr hw c i).2 fun hh => h (hs.1 hh)

end Kernel

end Cert.Moe
-- ==== Proof.RefValue.lean ====
/-
# The reference's value

The reference's result read at an index: the rank of a token counts the earlier tokens of its expert, and a token of rank
below 51 has its row times its expert's matrix.
-/
module

public import proofs.«01_k».proof.Proof.Value

@[expose] public section

noncomputable section

namespace Cert.Moe

open Idealize.ShloMosaic
open Idealize.ShloMosaic.TcCoe
open Cert.ReferenceIdeal Cert.ReferenceIdeal.Gen

/-- The routing as a vector. -/
def refE (R : S2048x1.Idx → BitVec 32) : S2048.Idx → BitVec 32 := shapeCast S2048 R shapeCasts_S2048x1_S2048

/-- Which tokens `j` come before token `i` with the same expert. -/
def refBefore (R : S2048x1.Idx → BitVec 32) : S2048x2048.Idx → BitVec 1 :=
  andi (cmpi .eq (broadcastInDim S2048x2048 ![0, 1] bcast_S2048x1_S2048x2048_0_1 (broadcastInDim S2048x1 ![0] bcast_S2048_S2048x1_0 (refE R)))
      (broadcastInDim S2048x2048 ![0, 1] bcast_S1x2048_S2048x2048_0_1 (broadcastInDim S1x2048 ![1] bcast_S2048_S1x2048_1 (refE R))))
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

def refRank (R : S2048x1.Idx → BitVec 32) : S2048.Idx → BitVec 32 :=
  Host.reduce IntOp.addi (extui 32 (refBefore R) natLt_1_32) (constantI S_ 32 0#32) reducesTo_S2048x2048_S2048_d1 h_S_

/-- The routing as the gather takes it, a negative word moved up by 32. -/
def refIx (R : S2048x1.Idx → BitVec 32) : S2048x1.Idx → BitVec 32 :=
  broadcastInDim S2048x1 ![0] bcast_S2048_S2048x1_0 (select (cmpi .slt (refE R) (broadcastInDim S2048 ![] bcast_S_S2048 (constantI S_ 32 0#32)))
    (addi (refE R) (broadcastInDim S2048 ![] bcast_S_S2048 (constantI S_ 32 32#32))) (refE R))

def refProd (x : S2048x1024.Idx → Ideal .f32) (R : S2048x1.Idx → BitVec 32) (W : S32x1024x1024.Idx → Ideal .f32) : S2048x1024.Idx → Ideal .f32 :=
  Host.dotGeneral dot_S2048x1024_S2048x1024x1024_S2048x1024_1_1_n_2_0_0 none x
    (Host.gather gather_S32x1024x1024_S2048x1_S2048x1024x1024_12_0_n_n_0_1_110241024 W (refIx R))

def refOut (x : S2048x1024.Idx → Ideal .f32) (R : S2048x1.Idx → BitVec 32) (W : S32x1024x1024.Idx → Ideal .f32) : S2048x1024.Idx → Ideal .f32 :=
  select (broadcastInDim S2048x1024 ![0, 1] bcast_S2048x1_S2048x1024_0_1 (broadcastInDim S2048x1 ![0] bcast_S2048_S2048x1_0
      (cmpi .slt (refRank R) (broadcastInDim S2048 ![] bcast_S_S2048 (constantI S_ 32 51#32)))))
    (refProd x R W) (broadcastInDim S2048x1024 ![] bcast_S_S2048x1024 (constant (F := Ideal) S_ .f32 0x00000000#32))

theorem refE_at (R : S2048x1.Idx → BitVec 32) (t : Fin 2048) : refE R (ix1 t) = R (ix2 t (0 : Fin 1)) := by
  pointwise [refE]

theorem eOf_at (R : S2048x1.Idx → BitVec 32) (t : Fin 2048) : eOf R t.val = (R (ix2 t (0 : Fin 1))).toNat := dif_pos t.isLt

theorem refBefore_at (R : S2048x1.Idx → BitVec 32) (i j : Fin 2048) :
    refBefore R (ix2 i j) = 1#1 ↔ eOf R j.val = eOf R i.val ∧ j.val < i.val := by
  rw [eOf_at, eOf_at]
  pointwise [refBefore]
  rw [refE_at, refE_at, IntOp.andi_eq_one, StableHlo.Predicate.cmpi_eq_iff,
    StableHlo.Predicate.slt_iff_toNat (by rw [toNat_cst (by omega)]; omega) (by rw [toNat_cst (by omega)]; omega),
    toNat_cst (by omega), toNat_cst (by omega)]
  exact and_congr_left fun _ => ⟨fun h => congrArg BitVec.toNat h.symm, fun h => (BitVec.eq_of_toNat_eq h).symm⟩

theorem refIx_at (R : S2048x1.Idx → BitVec 32) (hR : ∀ i, (R i).toNat < 32) (t : Fin 2048) :
    refIx R (ix2 t (0 : Fin 1)) = R (ix2 t (0 : Fin 1)) := by
  pointwise [refIx]
  rw [refE_at]
  have := hR (ix2 t (0 : Fin 1))
  generalize R (ix2 t (0 : Fin 1)) = w at *
  have hn : ¬ IntOp.cmpi .slt w 0#32 = 1#1 := by
    rw [StableHlo.Predicate.slt_iff_toNat (by omega) (by decide)]
    exact Nat.not_lt_zero _
  rcases BitVec.eq_zero_or_eq_one (IntOp.cmpi .slt w 0#32) with h | h
  · rw [h]; rfl
  · exact absurd h hn

theorem gather_at (W : S32x1024x1024.Idx → Ideal .f32) (I : S2048x1.Idx → BitVec 32) (t : Fin 2048) (d h : Fin 1024) :
    Host.gather gather_S32x1024x1024_S2048x1_S2048x1024x1024_12_0_n_n_0_1_110241024 W I (ix3 t d h)
      = W (ix3 (⟨min (I (ix2 t (0 : Fin 1))).toInt.toNat 31, by omega⟩ : Fin 32) d h) := by
  unfold Host.gather
  refine congrArg W ?_
  funext a
  refine Fin.ext ?_
  have hb : ∀ a, a ∉ gather_S32x1024x1024_S2048x1_S2048x1024x1024_12_0_n_n_0_1_110241024.operandBatchingDims := fun a => List.not_mem_nil
  match a with
  | ⟨0, _⟩ =>
    show GatherDims.start _ _ I 0 + GatherDims.batchCoord _ _ 0 + GatherDims.offCoord _ _ 0 = min (I (ix2 t (0 : Fin 1))).toInt.toNat 31
    rw [GatherDims.batchCoord_eq_zero _ _ _ (hb 0), GatherDims.offCoord_eq_zero _ _ _ (by decide)]
    unfold GatherDims.start
    rw [dif_pos (by decide)]
    refine congrArg (fun w : BitVec 32 => min w.toInt.toNat 31) (congrArg I ?_)
    funext b
    refine Fin.ext ?_
    match b with
    | ⟨0, _⟩ => rfl
    | ⟨1, _⟩ => rfl
  | ⟨1, _⟩ =>
    show GatherDims.start _ _ I 1 + GatherDims.batchCoord _ _ 1 + GatherDims.offCoord _ _ 1 = d.val
    have hs : GatherDims.start gather_S32x1024x1024_S2048x1_S2048x1024x1024_12_0_n_n_0_1_110241024 (ix3 t d h) I 1 = 0 := dif_neg (by decide)
    have ho : GatherDims.offCoord gather_S32x1024x1024_S2048x1_S2048x1024x1024_12_0_n_n_0_1_110241024 (ix3 t d h) 1 = d.val :=
      (dif_pos (by decide)).trans rfl
    rw [GatherDims.batchCoord_eq_zero _ _ _ (hb 1), hs, ho, Nat.zero_add]
  | ⟨2, _⟩ =>
    show GatherDims.start _ _ I 2 + GatherDims.batchCoord _ _ 2 + GatherDims.offCoord _ _ 2 = h.val
    have hs : GatherDims.start gather_S32x1024x1024_S2048x1_S2048x1024x1024_12_0_n_n_0_1_110241024 (ix3 t d h) I 2 = 0 := dif_neg (by decide)
    have ho : GatherDims.offCoord gather_S32x1024x1024_S2048x1_S2048x1024x1024_12_0_n_n_0_1_110241024 (ix3 t d h) 2 = h.val :=
      (dif_pos (by decide)).trans rfl
    rw [GatherDims.batchCoord_eq_zero _ _ _ (hb 2), hs, ho, Nat.zero_add]

theorem refProd_at (x : S2048x1024.Idx → Ideal .f32) (R : S2048x1.Idx → BitVec 32) (W : S32x1024x1024.Idx → Ideal .f32) (hR : ∀ i, (R i).toNat < 32)
    (t : Fin 2048) (h : Fin 1024) : refProd x R W (ix2 t h) = prod x R W (ix2 t h) := by
  pointwise [refProd]
  unfold prod
  refine Finset.sum_congr rfl fun d _ => ?_
  refine congrArg (x (ix2 t d) * ·) ((gather_at W (refIx R) t d h).trans (congrArg W ?_))
  have hw := hR (ix2 t (0 : Fin 1))
  funext a
  refine Fin.ext ?_
  match a with
  | ⟨0, _⟩ =>
    show min (refIx R (ix2 t (0 : Fin 1))).toInt.toNat 31 = min (eOf R t.val) 31
    rw [refIx_at R hR, eOf_at, StableHlo.Predicate.toInt_eq_toNat_of_lt (by omega)]
    rfl
  | ⟨1, _⟩ => rfl
  | ⟨2, _⟩ => rfl

/-- The reference's count of earlier tokens is the rank. -/
theorem refRank_at (R : S2048x1.Idx → BitVec 32) (t : Fin 2048) : (refRank R (ix1 t)).toNat = rankN (eOf R) t.val := by
  unfold refRank
  refine (StableHlo.Predicate.toNat_reduce_count_cols (by decide) (refBefore R) natLt_1_32 reducesTo_S2048x2048_S2048_d1 h_S_ (ix1 t)).trans ?_
  have e : ∀ q : Fin 2048, StableHlo.Predicate.ij t q = ix2 t q := fun q => by
    funext b
    match b with
    | ⟨0, _⟩ => rfl
    | ⟨1, _⟩ => rfl
  unfold rankN cntN
  refine Finset.card_bij (fun q _ => q.val) (fun q hq => ?_) (fun q _ q' _ h => Fin.ext h) (fun j hj => ?_)
  · have := (refBefore_at R t q).1 ((congrArg (refBefore R) (e q).symm).trans (Finset.mem_filter.1 hq).2)
    exact Finset.mem_filter.2 ⟨Finset.mem_range.2 this.2, this.1⟩
  · have hj' := Finset.mem_filter.1 hj
    have hlt := Finset.mem_range.1 hj'.1
    refine ⟨⟨j, by omega⟩, Finset.mem_filter.2 ⟨Finset.mem_univ _, ?_⟩, rfl⟩
    exact (congrArg (refBefore R) (e ⟨j, by omega⟩)).trans ((refBefore_at R t ⟨j, by omega⟩).2 ⟨hj'.2, hlt⟩)

theorem refOut_at (x : S2048x1024.Idx → Ideal .f32) (R : S2048x1.Idx → BitVec 32) (W : S32x1024x1024.Idx → Ideal .f32) (hR : ∀ i, (R i).toNat < 32)
    (i : S2048x1024.Idx) : refOut x R W i = if rankN (eOf R) (i 0).val < 51 then prod x R W i else 0 := by
  obtain ⟨t, h, rfl⟩ : ∃ (t : Fin 2048) (h : Fin 1024), i = ix2 t h := ⟨i 0, i 1, eq_ix2 i⟩
  pointwise [refOut]
  rw [refProd_at x R W hR]
  have hr := refRank_at R t
  have hle : rankN (eOf R) t.val ≤ t.val := cntN_le _ _ _
  have hc : IntOp.cmpi .slt (refRank R (ix1 t)) 51#32 = 1#1 ↔ rankN (eOf R) t.val < 51 := by
    rw [StableHlo.Predicate.slt_iff_toNat (by omega) (by decide), hr]
    rfl
  rcases BitVec.eq_zero_or_eq_one (IntOp.cmpi .slt (refRank R (ix1 t)) 51#32) with h0 | h1
  · rw [h0]; exact (if_neg fun h => absurd (h0.symm.trans (hc.2 h)) (by decide)).symm
  · rw [h1]; exact (if_pos (hc.1 h1)).symm

end Cert.Moe
-- ==== Proof.Equal.lean ====
/-
# The kernel's result is the reference's

From agreeing arguments the kernel's run ends with the reference's result on every device.
-/
module

public import proofs.«01_k».proof.Proof.Ending
public import proofs.«01_k».proof.Proof.RefValue
public import proofs.«01_k».proof.Proof.Gen.ReferenceIdeal.Run

@[expose] public section

noncomputable section

namespace Cert.Moe

open Idealize.ShloMosaic
open Idealize.ShloMosaic.TcCoe

theorem equal : Cert.algebraic_KernelIdeal_ReferenceIdeal := fun m g m' g' hpre hagree => by
  have hx := fun c => (xs_eq m g c).trans (hagree c).1
  have hr := fun c => (rs_eq m g c).trans (hagree c).2.2.1
  have hw := fun c => (ws_eq m g c).trans (hagree c).2.2.2
  have hR := fun i => (congrArg (fun f => (f i).toNat) (hr 0)).symm.trans_lt (in_range m g hpre 0 i)
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · exact (θ_run Cert.KernelIdeal.defs _ _).mono
      (fun r h c => ⟨(out_end m g h c).trans (funext fun i =>
          (out4_eq m g _ _ _ hx hr hw hR c i).trans (refOut_at _ _ _ hR i).symm), args_end m g h c⟩)
      (run_main (F := Ideal) m g (in_range m g hpre))
  · exact (θ_run Cert.ReferenceIdeal.defs _ _).mono (fun r h => h 0) (Cert.ReferenceIdeal.Value.run (F := Ideal) m' g')

end Cert.Moe
-- ==== Proof.lean ====
/- The claim. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_routes_Kernel
public import proofs.«01_k».proof.Proof.Gen.Pre_routes_ReferenceIdeal
public import proofs.«01_k».proof.Proof.Ending
public import proofs.«01_k».proof.Proof.Equal
public import Idealize.ShloMosaic.Adequacy
public import Idealize.ShloMosaic.Init

@[expose] public section

noncomputable section

theorem Cert.Proof.claim : Cert.Claim :=
  ⟨inferInstance, inferInstance, inferInstance, inferInstance, inferInstance,
    Cert.Moe.frame_kernel, Cert.Moe.frame_kernelIdeal, fun m g _ => Cert.Moe.frame_reference m g,
    fun m g _ => Cert.Moe.frame_reference m g, trivial, Cert.Moe.equal⟩

end
